-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ordered [hPre_finite_ordered : Cert.Pre_finite_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ordered [hPre_finite_ordered : Cert.Pre_finite_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_ordered [hKernelIdeal : Cert.KernelIdeal.Facts] [hPre_finite_ordered : Cert.Pre_finite_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ordered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_ordered [hReferenceIdeal : Cert.ReferenceIdeal.Facts] [hPre_finite_ordered : Cert.Pre_finite_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_ordered [hKernelIdeal : Cert.KernelIdeal.Facts] [hReferenceIdeal : Cert.ReferenceIdeal.Facts] [hPre_finite_ordered : Cert.Pre_finite_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_ordered : Cert.Pre_finite_ordered.Facts),
    quiescent_Kernel (hKernel := hKernel)
    ∧ quiescent_KernelIdeal (hKernelIdeal := hKernelIdeal)
    ∧ quiescent_KernelIdeal_pre_finite_ordered (hKernelIdeal := hKernelIdeal) (hPre_finite_ordered := hPre_finite_ordered)
    ∧ quiescent_ReferenceIdeal (hReferenceIdeal := hReferenceIdeal)
    ∧ quiescent_ReferenceIdeal_pre_finite_ordered (hReferenceIdeal := hReferenceIdeal) (hPre_finite_ordered := hPre_finite_ordered)
    ∧ preserves_Kernel_KernelIdeal
    ∧ algebraic_KernelIdeal_ReferenceIdeal_pre_finite_ordered (hKernelIdeal := hKernelIdeal) (hReferenceIdeal := hReferenceIdeal) (hPre_finite_ordered := hPre_finite_ordered)
-- ==== Pre_finite_ordered.lean ====
abbrev S2048x4096 : Shape := ⟨2, ![2048, 4096]⟩
abbrev S2048 : Shape := ⟨1, ![2048]⟩
abbrev S4096x1536 : Shape := ⟨2, ![4096, 1536]⟩
abbrev S1536 : Shape := ⟨1, ![1536]⟩
abbrev S1536x6144 : Shape := ⟨2, ![1536, 6144]⟩
abbrev S4096x576 : Shape := ⟨2, ![4096, 576]⟩
abbrev S512 : Shape := ⟨1, ![512]⟩
abbrev S512x8192 : Shape := ⟨2, ![512, 8192]⟩
abbrev S4096x4096 : Shape := ⟨2, ![4096, 4096]⟩
abbrev S_ : Shape := ⟨0, ![]⟩
abbrev S2047 : Shape := ⟨1, ![2047]⟩
abbrev S4096x64 : Shape := ⟨2, ![4096, 64]⟩
abbrev S512x32x256 : Shape := ⟨3, ![512, 32, 256]⟩
abbrev S512x32x128 : Shape := ⟨3, ![512, 32, 128]⟩

class Facts : Prop where
  bcast_S_S2048x4096 : S_.BroadcastsInDim S2048x4096 (![] : Fin 0 → Fin S2048x4096.rank)
  slices_S2048_S2047_0 : S2048.Slices ![0] S2047
  slices_S2048_S2047_1 : S2048.Slices ![1] S2047
  bcast_S_S1536 : S_.BroadcastsInDim S1536 (![] : Fin 0 → Fin S1536.rank)
  bcast_S_S1536x6144 : S_.BroadcastsInDim S1536x6144 (![] : Fin 0 → Fin S1536x6144.rank)
  slices_S4096x576_S4096x64_0_512 : S4096x576.Slices ![0, 512] S4096x64
  bcast_S_S4096x64 : S_.BroadcastsInDim S4096x64 (![] : Fin 0 → Fin S4096x64.rank)
  bcast_S_S512 : S_.BroadcastsInDim S512 (![] : Fin 0 → Fin S512.rank)
  shapeCasts_S512x8192_S512x32x256 : S512x8192.ShapeCasts S512x32x256
  slices_S512x32x256_S512x32x128_0_0_0 : S512x32x256.Slices ![0, 0, 0] S512x32x128
  bcast_S_S512x32x128 : S_.BroadcastsInDim S512x32x128 (![] : Fin 0 → Fin S512x32x128.rank)

variable [Facts]

def fn_part1 {F : FTy → Type} [FloatOps F] (main_arg7 : FVec F S512x8192 .f32) (main_v2 : IVec S2048x4096 1) (main_v5 : IVec S2047 1) (main_v8 : IVec S1536 1) (main_v11 : IVec S1536x6144 1) (main_v15 : IVec S4096x64 1) (main_v18 : IVec S512 1) : IVec S2048x4096 1 × IVec S2047 1 × IVec S1536 1 × IVec S1536x6144 1 × IVec S4096x64 1 × IVec S512 1 × IVec S512x32x128 1 :=
  let main_v19 : FVec F S512x32x256 .f32 := shapeCast S512x32x256 main_arg7 shapeCasts_S512x8192_S512x32x256
  let main_v20 : FVec F S512x32x128 .f32 := (extractStridedSlice S512x32x128 ![0, 0, 0] · slices_S512x32x256_S512x32x128_0_0_0) main_v19
  let main_v21 : FVec F S512x32x128 .f32 := Host.absf main_v20
  let main_cst_4 : FVec F S_ .f32 := constant S_ .f32 0x7F800000#32
  let main_v22 : FVec F S512x32x128 .f32 := broadcastInDim S512x32x128 ![] bcast_S_S512x32x128 main_cst_4
  let main_v23 : IVec S512x32x128 1 := cmpf .olt main_v21 main_v22
  (main_v2, main_v5, main_v8, main_v11, main_v15, main_v18, main_v23)

def fn {F : FTy → Type} [FloatOps F] (main_arg0 : FVec F S2048x4096 .f32) (main_arg1 : IVec S2048 32) (main_arg2 : FVec F S4096x1536 .f32) (main_arg3 : FVec F S1536 .f32) (main_arg4 : FVec F S1536x6144 .f32) (main_arg5 : FVec F S4096x576 .f32) (main_arg6 : FVec F S512 .f32) (main_arg7 : FVec F S512x8192 .f32) (main_arg8 : FVec F S4096x4096 .f32) : IVec S2048x4096 1 × IVec S2047 1 × IVec S1536 1 × IVec S1536x6144 1 × IVec S4096x64 1 × IVec S512 1 × IVec S512x32x128 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : IVec S2047 32 := (extractStridedSlice S2047 ![0] · slices_S2048_S2047_0) main_arg1
  let main_v4 : IVec S2047 32 := (extractStridedSlice S2047 ![1] · slices_S2048_S2047_1) main_arg1
  let main_v5 : IVec S2047 1 := cmpi .slt main_v3 main_v4
  let main_v6 : FVec F S1536 .f32 := Host.absf main_arg3
  let main_cst_0 : FVec F S_ .f32 := constant S_ .f32 0x7F800000#32
  let main_v7 : FVec F S1536 .f32 := broadcastInDim S1536 ![] bcast_S_S1536 main_cst_0
  let main_v8 : IVec S1536 1 := cmpf .olt main_v6 main_v7
  let main_v9 : FVec F S1536x6144 .f32 := Host.absf main_arg4
  let main_cst_1 : FVec F S_ .f32 := constant S_ .f32 0x7F800000#32
  let main_v10 : FVec F S1536x6144 .f32 := broadcastInDim S1536x6144 ![] bcast_S_S1536x6144 main_cst_1
  let main_v11 : IVec S1536x6144 1 := cmpf .olt main_v9 main_v10
  let main_v12 : FVec F S4096x64 .f32 := (extractStridedSlice S4096x64 ![0, 512] · slices_S4096x576_S4096x64_0_512) main_arg5
  let main_v13 : FVec F S4096x64 .f32 := Host.absf main_v12
  let main_cst_2 : FVec F S_ .f32 := constant S_ .f32 0x7F800000#32
  let main_v14 : FVec F S4096x64 .f32 := broadcastInDim S4096x64 ![] bcast_S_S4096x64 main_cst_2
  let main_v15 : IVec S4096x64 1 := cmpf .olt main_v13 main_v14
  let main_v16 : FVec F S512 .f32 := Host.absf main_arg6
  let main_cst_3 : FVec F S_ .f32 := constant S_ .f32 0x7F800000#32
  let main_v17 : FVec F S512 .f32 := broadcastInDim S512 ![] bcast_S_S512 main_cst_3
  let main_v18 : IVec S512 1 := cmpf .olt main_v16 main_v17
  fn_part1 (F := F) main_arg7 main_v2 main_v5 main_v8 main_v11 main_v15 main_v18
-- ==== Kernel.lean ====
abbrev S2048x4096 : Shape := ⟨2, ![2048, 4096]⟩
abbrev S2048 : Shape := ⟨1, ![2048]⟩
abbrev S4096x1536 : Shape := ⟨2, ![4096, 1536]⟩
abbrev S1536 : Shape := ⟨1, ![1536]⟩
abbrev S1536x6144 : Shape := ⟨2, ![1536, 6144]⟩
abbrev S4096x576 : Shape := ⟨2, ![4096, 576]⟩
abbrev S512 : Shape := ⟨1, ![512]⟩
abbrev S512x8192 : Shape := ⟨2, ![512, 8192]⟩
abbrev S4096x4096 : Shape := ⟨2, ![4096, 4096]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S2048x32x1 : Shape := ⟨3, ![2048, 32, 1]⟩
abbrev S1x1536 : Shape := ⟨2, ![1, 1536]⟩
abbrev S1x512 : Shape := ⟨2, ![1, 512]⟩
abbrev S2048x1536 : Shape := ⟨2, ![2048, 1536]⟩
abbrev S2048x512 : Shape := ⟨2, ![2048, 512]⟩
abbrev S256x4096 : Shape := ⟨2, ![256, 4096]⟩
abbrev S256x64 : Shape := ⟨2, ![256, 64]⟩
abbrev S256x1536 : Shape := ⟨2, ![256, 1536]⟩
abbrev S256x512 : Shape := ⟨2, ![256, 512]⟩
abbrev S256 : Shape := ⟨1, ![256]⟩
abbrev S256x1 : Shape := ⟨2, ![256, 1]⟩
abbrev S256x576 : Shape := ⟨2, ![256, 576]⟩
abbrev S64x64 : Shape := ⟨2, ![64, 64]⟩
abbrev S2048x6144 : Shape := ⟨2, ![2048, 6144]⟩
abbrev S256x6144 : Shape := ⟨2, ![256, 6144]⟩
abbrev S2048x8192 : Shape := ⟨2, ![2048, 8192]⟩
abbrev S256x8192 : Shape := ⟨2, ![256, 8192]⟩
abbrev S1024x384 : Shape := ⟨2, ![1024, 384]⟩
abbrev S1024x512 : Shape := ⟨2, ![1024, 512]⟩
abbrev S1024x64 : Shape := ⟨2, ![1024, 64]⟩
abbrev S1024x256 : Shape := ⟨2, ![1024, 256]⟩
abbrev S1024x2 : Shape := ⟨2, ![1024, 2]⟩
abbrev S1024x1024 : Shape := ⟨2, ![1024, 1024]⟩
abbrev S1024x192 : Shape := ⟨2, ![1024, 192]⟩
abbrev S1024x128 : Shape := ⟨2, ![1024, 128]⟩
abbrev S1024 : Shape := ⟨1, ![1024]⟩
abbrev S1024x1 : Shape := ⟨2, ![1024, 1]⟩
abbrev S512x4096 : Shape := ⟨2, ![512, 4096]⟩

abbrev nBuf : Space → Nat
  | .hbm => 50
  | .vmem => 45
  | .smem => 0
  | _ => 0

abbrev bufTy : (tb : Table) → Fin (tcTables nBuf tb) → BufTy
  | .hbm, ⟨0, _⟩ => ⟨S2048x4096, .f32⟩
  | .hbm, ⟨1, _⟩ => ⟨S2048, .i32⟩
  | .hbm, ⟨2, _⟩ => ⟨S4096x1536, .f32⟩
  | .hbm, ⟨3, _⟩ => ⟨S1536, .f32⟩
  | .hbm, ⟨4, _⟩ => ⟨S1536x6144, .f32⟩
  | .hbm, ⟨5, _⟩ => ⟨S4096x576, .f32⟩
  | .hbm, ⟨6, _⟩ => ⟨S512, .f32⟩
  | .hbm, ⟨7, _⟩ => ⟨S512x8192, .f32⟩
  | .hbm, ⟨8, _⟩ => ⟨S4096x4096, .f32⟩
  | .hbm, ⟨9, _⟩ => ⟨S2048, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S2048x1, .f32⟩
  | .hbm, ⟨27, _⟩ => ⟨S1x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32x2, .f32⟩
  | .hbm, ⟨34, _⟩ => ⟨S2048x64, .f32⟩
  | .hbm, ⟨35, _⟩ => ⟨S2048x32, .f32⟩
  | .hbm, ⟨36, _⟩ => ⟨S2048x32x1, .f32⟩
  | .hbm, ⟨37, _⟩ => ⟨S2048x32x1, .f32⟩
  | .hbm, ⟨38, _⟩ => ⟨S2048x32x2, .f32⟩
  | .hbm, ⟨39, _⟩ => ⟨S2048x64, .f32⟩
  | .hbm, ⟨40, _⟩ => ⟨S1x1536, .f32⟩
  | .hbm, ⟨41, _⟩ => ⟨S1x512, .f32⟩
  | .hbm, ⟨42, _⟩ => ⟨S2048x1536, .bf16⟩
  | .hbm, ⟨43, _⟩ => ⟨S2048x512, .bf16⟩
  | .hbm, ⟨44, _⟩ => ⟨S2048x64, .bf16⟩
  | .hbm, ⟨45, _⟩ => ⟨S2048x6144, .bf16⟩
  | .hbm, ⟨46, _⟩ => ⟨S2048x8192, .bf16⟩
  | .hbm, ⟨47, _⟩ => ⟨S2048x4096, .bf16⟩
  | .hbm, ⟨48, _⟩ => ⟨S4096x4096, .bf16⟩
  | .hbm, ⟨49, _⟩ => ⟨S2048x4096, .f32⟩
  | .local _ .vmem, ⟨0, _⟩ => ⟨S256x4096, .f32⟩
  | .local _ .vmem, ⟨1, _⟩ => ⟨S256x4096, .f32⟩
  | .local _ .vmem, ⟨2, _⟩ => ⟨S4096x1536, .f32⟩
  | .local _ .vmem, ⟨3, _⟩ => ⟨S4096x576, .f32⟩
  | .local _ .vmem, ⟨4, _⟩ => ⟨S1x1536, .f32⟩
  | .local _ .vmem, ⟨5, _⟩ => ⟨S1x512, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x1536, .bf16⟩
  | .local _ .vmem, ⟨11, _⟩ => ⟨S256x1536, .bf16⟩
  | .local _ .vmem, ⟨12, _⟩ => ⟨S256x512, .bf16⟩
  | .local _ .vmem, ⟨13, _⟩ => ⟨S256x512, .bf16⟩
  | .local _ .vmem, ⟨14, _⟩ => ⟨S256x64, .bf16⟩
  | .local _ .vmem, ⟨15, _⟩ => ⟨S256x64, .bf16⟩
  | .local _ .vmem, ⟨16, _⟩ => ⟨S256x1536, .bf16⟩
  | .local _ .vmem, ⟨17, _⟩ => ⟨S256x1536, .bf16⟩
  | .local _ .vmem, ⟨18, _⟩ => ⟨S1536x6144, .f32⟩
  | .local _ .vmem, ⟨19, _⟩ => ⟨S256x6144, .bf16⟩
  | .local _ .vmem, ⟨20, _⟩ => ⟨S256x6144, .bf16⟩
  | .local _ .vmem, ⟨21, _⟩ => ⟨S256x512, .bf16⟩
  | .local _ .vmem, ⟨22, _⟩ => ⟨S256x512, .bf16⟩
  | .local _ .vmem, ⟨23, _⟩ => ⟨S512x8192, .f32⟩
  | .local _ .vmem, ⟨24, _⟩ => ⟨S256x8192, .bf16⟩
  | .local _ .vmem, ⟨25, _⟩ => ⟨S256x8192, .bf16⟩
  | .local _ .vmem, ⟨26, _⟩ => ⟨S1024x384, .bf16⟩
  | .local _ .vmem, ⟨27, _⟩ => ⟨S1024x384, .bf16⟩
  | .local _ .vmem, ⟨28, _⟩ => ⟨S1024x512, .bf16⟩
  | .local _ .vmem, ⟨29, _⟩ => ⟨S1024x512, .bf16⟩
  | .local _ .vmem, ⟨30, _⟩ => ⟨S1024x64, .bf16⟩
  | .local _ .vmem, ⟨31, _⟩ => ⟨S1024x64, .bf16⟩
  | .local _ .vmem, ⟨32, _⟩ => ⟨S1024x64, .f32⟩
  | .local _ .vmem, ⟨33, _⟩ => ⟨S1024x64, .f32⟩
  | .local _ .vmem, ⟨34, _⟩ => ⟨S1024x64, .f32⟩
  | .local _ .vmem, ⟨35, _⟩ => ⟨S1024x64, .f32⟩
  | .local _ .vmem, ⟨36, _⟩ => ⟨S1024x256, .bf16⟩
  | .local _ .vmem, ⟨37, _⟩ => ⟨S1024x256, .bf16⟩
  | .local _ .vmem, ⟨38, _⟩ => ⟨S1024x256, .f32⟩
  | .local _ .vmem, ⟨39, _⟩ => ⟨S1024x2, .f32⟩
  | .local _ .vmem, ⟨40, _⟩ => ⟨S512x4096, .bf16⟩
  | .local _ .vmem, ⟨41, _⟩ => ⟨S512x4096, .bf16⟩
  | .local _ .vmem, ⟨42, _⟩ => ⟨S4096x4096, .bf16⟩
  | .local _ .vmem, ⟨43, _⟩ => ⟨S512x4096, .f32⟩
  | .local _ .vmem, ⟨44, _⟩ => ⟨S512x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_v28_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc3_scratch0 : Ref sig .tc := ⟨.vmem, 38, rfl⟩
abbrev cc3_scratch1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg2_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem2_1 : DmaSem sig := 42

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1536x6144 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x6144 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x8192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x8192 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![16, 3], ![false, false]⟩

def k3_cond5 (i : grid3.Coords) : BitVec 1 :=
  let arg1 : BitVec 32 := BitVec.ofNat 32 (i 1).val
  let c0_i32_6 : BitVec 32 := 0#32
  let v19 : BitVec 1 := Scalar.cmpi .sgt arg1 c0_i32_6
  let v20 : BitVec 32 := Scalar.extui v19
  let c0_i32_7 : BitVec 32 := 0#32
  let v21 : BitVec 1 := Scalar.cmpi .slt arg1 c0_i32_7
  let v22 : BitVec 32 := Scalar.extui v21
  let v23 : BitVec 32 := Scalar.subi v20 v22
  let c2_i32_5 : BitVec 32 := 2#32
  let c0_i32_8 : BitVec 32 := 0#32
  let v24 : BitVec 1 := Scalar.cmpi .sgt c2_i32_5 c0_i32_8
  let v25 : BitVec 32 := Scalar.extui v24
  let c0_i32_9 : BitVec 32 := 0#32
  let v26 : BitVec 1 := Scalar.cmpi .slt c2_i32_5 c0_i32_9
  let v27 : BitVec 32 := Scalar.extui v26
  let v28 : BitVec 32 := Scalar.subi v25 v27
  let v29 : BitVec 1 := Scalar.cmpi .ne v23 v28
  let v30 : BitVec 32 := Scalar.remsi arg1 c2_i32_5
  let c0_i32_10 : BitVec 32 := 0#32
  let v31 : BitVec 1 := Scalar.cmpi .ne v30 c0_i32_10
  let v32 : BitVec 1 := Scalar.andi v29 v31
  let v18 : BitVec 32 := Scalar.divsi arg1 c2_i32_5
  let c1_i32_11 : BitVec 32 := 1#32
  let v33 : BitVec 32 := Scalar.subi v18 c1_i32_11
  let v34 : BitVec 32 := Scalar.select v32 v33 v18
  let c1_i32 : BitVec 32 := 1#32
  let v0 : BitVec 32 := Scalar.addi arg1 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let v1 : BitVec 32 := Scalar.divsi v0 c2_i32
  let c1_i32_4 : BitVec 32 := 1#32
  let v16 : BitVec 32 := Scalar.subi v1 c1_i32_4
  let v17 : BitVec 32 := Scalar.select v15 v16 v1
  let v125 : BitVec 1 := Scalar.cmpi .eq v34 v17
  let v126 : BitVec 32 := Scalar.extui v125
  let c0_i32_42 : BitVec 32 := 0#32
  let v127 : BitVec 1 := Scalar.cmpi .ne v126 c0_i32_42
  v127

def cc3_transform_0 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  ![v17.toNat, arg0.toNat]

def cc3_transform_1 (i : grid3.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg0.toNat]

def cc3_transform_2 (i : grid3.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc3_transform_3 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  ![v17.toNat, c0_i32_5.toNat]

def cc3_transform_4 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  ![v17.toNat, c0_i32_5.toNat]

def cc3_transform_5 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  ![v17.toNat, arg0.toNat]

abbrev stage3_0 : Fin 2 → Memref sig .tc .vmem S1024x384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1024x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S1024x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== KernelIdeal.lean ====
variable {F : FTy → Type} [FloatOps F] [Named F]
def κ : String → Option EReal := fun
  | "mask" => some ⊥
  | _ => none
-- ==== ReferenceIdeal.lean ====
abbrev S2048x4096 : Shape := ⟨2, ![2048, 4096]⟩
abbrev S2048 : Shape := ⟨1, ![2048]⟩
abbrev S4096x1536 : Shape := ⟨2, ![4096, 1536]⟩
abbrev S1536 : Shape := ⟨1, ![1536]⟩
abbrev S1536x6144 : Shape := ⟨2, ![1536, 6144]⟩
abbrev S4096x576 : Shape := ⟨2, ![4096, 576]⟩
abbrev S512 : Shape := ⟨1, ![512]⟩
abbrev S512x8192 : Shape := ⟨2, ![512, 8192]⟩
abbrev S4096x4096 : Shape := ⟨2, ![4096, 4096]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x1536 : Shape := ⟨2, ![2048, 1536]⟩
abbrev S1x1536 : Shape := ⟨2, ![1, 1536]⟩
abbrev S2048x6144 : Shape := ⟨2, ![2048, 6144]⟩
abbrev S2048x32x192 : Shape := ⟨3, ![2048, 32, 192]⟩
abbrev S2048x32x128 : Shape := ⟨3, ![2048, 32, 128]⟩
abbrev S2048x32x64 : Shape := ⟨3, ![2048, 32, 64]⟩
abbrev S2048x32x32 : Shape := ⟨3, ![2048, 32, 32]⟩
abbrev S2048x32x32x1 : Shape := ⟨4, ![2048, 32, 32, 1]⟩
abbrev S2048x32x32x2 : Shape := ⟨4, ![2048, 32, 32, 2]⟩
abbrev S2048x576 : Shape := ⟨2, ![2048, 576]⟩
abbrev S2048x512 : Shape := ⟨2, ![2048, 512]⟩
abbrev S2048x64 : Shape := ⟨2, ![2048, 64]⟩
abbrev S2048x1x64 : Shape := ⟨3, ![2048, 1, 64]⟩
abbrev S2048x1x32x1 : Shape := ⟨4, ![2048, 1, 32, 1]⟩
abbrev S2048x1x32x2 : Shape := ⟨4, ![2048, 1, 32, 2]⟩
abbrev S1x512 : Shape := ⟨2, ![1, 512]⟩
abbrev S2048x8192 : Shape := ⟨2, ![2048, 8192]⟩
abbrev S2048x32x256 : Shape := ⟨3, ![2048, 32, 256]⟩
abbrev S32x2048x2048 : Shape := ⟨3, ![32, 2048, 2048]⟩
abbrev S1x2048 : Shape := ⟨2, ![1, 2048]⟩
abbrev S2048x2048 : Shape := ⟨2, ![2048, 2048]⟩
abbrev S1x2048x2048 : Shape := ⟨3, ![1, 2048, 2048]⟩
abbrev S32x2048 : Shape := ⟨2, ![32, 2048]⟩
abbrev S32x2048x1 : Shape := ⟨3, ![32, 2048, 1]⟩
abbrev S32x128x2048 : Shape := ⟨3, ![32, 128, 2048]⟩

abbrev nBuf : Space → Nat
  | .hbm => 144
  | .vmem => 0
  | .smem => 0
  | _ => 0

abbrev hbmTy0_0 (i : Nat) : BufTy := match i % 128 with
  | 0 => ⟨S2048x4096, .f32⟩
  | 1 => ⟨S2048, .i32⟩
  | 2 => ⟨S4096x1536, .f32⟩
  | 3 => ⟨S1536, .f32⟩
  | 4 => ⟨S1536x6144, .f32⟩
  | 5 => ⟨S4096x576, .f32⟩
  | 6 => ⟨S512, .f32⟩
  | 7 => ⟨S512x8192, .f32⟩
  | 8 => ⟨S4096x4096, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S2048, .f32⟩
  | 26 => ⟨S2048x1, .f32⟩
  | 27 => ⟨S1x32, .f32⟩
  | 28 => ⟨S2048x32, .f32⟩
  | 29 => ⟨S2048x32, .f32⟩
  | 30 => ⟨S2048x32, .f32⟩
  | 31 => ⟨S2048x32, .f32⟩
  | 32 => ⟨S2048x1x32, .f32⟩
  | 33 => ⟨S2048x32, .f32⟩
  | 34 => ⟨S2048x1x32, .f32⟩
  | 35 => ⟨S2048x1536, .f32⟩
  | 36 => ⟨S2048x1536, .f32⟩
  | 37 => ⟨S_, .f32⟩
  | 38 => ⟨S2048, .f32⟩
  | 39 => ⟨S2048x1, .f32⟩
  | 40 => ⟨S_, .f32⟩
  | 41 => ⟨S2048x1, .f32⟩
  | 42 => ⟨S2048x1, .f32⟩
  | 43 => ⟨S_, .f32⟩
  | 44 => ⟨S2048x1, .f32⟩
  | 45 => ⟨S2048x1, .f32⟩
  | 46 => ⟨S2048x1, .f32⟩
  | 47 => ⟨S2048x1536, .f32⟩
  | 48 => ⟨S2048x1536, .f32⟩
  | 49 => ⟨S1x1536, .f32⟩
  | 50 => ⟨S2048x1536, .f32⟩
  | 51 => ⟨S2048x1536, .f32⟩
  | 52 => ⟨S2048x6144, .f32⟩
  | 53 => ⟨S2048x32x192, .f32⟩
  | 54 => ⟨S2048x32x128, .f32⟩
  | 55 => ⟨S2048x32x64, .f32⟩
  | 56 => ⟨S2048x32x32, .f32⟩
  | 57 => ⟨S2048x32x32, .f32⟩
  | 58 => ⟨S2048x32x32, .f32⟩
  | 59 => ⟨S2048x32x32, .f32⟩
  | 60 => ⟨S2048x32x32, .f32⟩
  | 61 => ⟨S2048x32x32, .f32⟩
  | 62 => ⟨S2048x32x32, .f32⟩
  | 63 => ⟨S2048x32x32, .f32⟩
  | 64 => ⟨S2048x32x32, .f32⟩
  | 65 => ⟨S2048x32x32, .f32⟩
  | 66 => ⟨S2048x32x32, .f32⟩
  | 67 => ⟨S2048x32x32, .f32⟩
  | 68 => ⟨S2048x32x32x1, .f32⟩
  | 69 => ⟨S2048x32x32x1, .f32⟩
  | 70 => ⟨S2048x32x32x2, .f32⟩
  | 71 => ⟨S2048x32x64, .f32⟩
  | 72 => ⟨S2048x576, .f32⟩
  | 73 => ⟨S2048x512, .f32⟩
  | 74 => ⟨S2048x64, .f32⟩
  | 75 => ⟨S2048x1x64, .f32⟩
  | 76 => ⟨S2048x1x32, .f32⟩
  | 77 => ⟨S2048x1x32, .f32⟩
  | 78 => ⟨S2048x1x32, .f32⟩
  | 79 => ⟨S2048x1x32, .f32⟩
  | 80 => ⟨S2048x1x32, .f32⟩
  | 81 => ⟨S2048x1x32, .f32⟩
  | 82 => ⟨S2048x1x32, .f32⟩
  | 83 => ⟨S2048x1x32, .f32⟩
  | 84 => ⟨S2048x1x32x1, .f32⟩
  | 85 => ⟨S2048x1x32x1, .f32⟩
  | 86 => ⟨S2048x1x32x2, .f32⟩
  | 87 => ⟨S2048x1x64, .f32⟩
  | 88 => ⟨S2048x512, .f32⟩
  | 89 => ⟨S_, .f32⟩
  | 90 => ⟨S2048, .f32⟩
  | 91 => ⟨S2048x1, .f32⟩
  | 92 => ⟨S_, .f32⟩
  | 93 => ⟨S2048x1, .f32⟩
  | 94 => ⟨S2048x1, .f32⟩
  | 95 => ⟨S_, .f32⟩
  | 96 => ⟨S2048x1, .f32⟩
  | 97 => ⟨S2048x1, .f32⟩
  | 98 => ⟨S2048x1, .f32⟩
  | 99 => ⟨S2048x512, .f32⟩
  | 100 => ⟨S2048x512, .f32⟩
  | 101 => ⟨S1x512, .f32⟩
  | 102 => ⟨S2048x512, .f32⟩
  | 103 => ⟨S2048x512, .f32⟩
  | 104 => ⟨S2048x8192, .f32⟩
  | 105 => ⟨S2048x32x256, .f32⟩
  | 106 => ⟨S2048x32x128, .f32⟩
  | 107 => ⟨S2048x32x128, .f32⟩
  | 108 => ⟨S2048x32x192, .f32⟩
  | 109 => ⟨S2048x32x64, .f32⟩
  | 110 => ⟨S2048x32x192, .f32⟩
  | 111 => ⟨S32x2048x2048, .f32⟩
  | 112 => ⟨S_, .f32⟩
  | 113 => ⟨S32x2048x2048, .f32⟩
  | 114 => ⟨S32x2048x2048, .f32⟩
  | 115 => ⟨S2048x1, .i32⟩
  | 116 => ⟨S1x2048, .i32⟩
  | 117 => ⟨S2048x2048, .i32⟩
  | 118 => ⟨S2048x2048, .i32⟩
  | 119 => ⟨S2048x2048, .i1⟩
  | 120 => ⟨S1x2048x2048, .i1⟩
  | 121 => ⟨S_, .f32⟩
  | 122 => ⟨S_, .f32⟩
  | 123 => ⟨S32x2048x2048, .i1⟩
  | 124 => ⟨S32x2048x2048, .f32⟩
  | 125 => ⟨S32x2048x2048, .f32⟩
  | 126 => ⟨S_, .f32⟩
  | 127 => ⟨S32x2048, .f32⟩
  | _ => ⟨S2048x4096, .f32⟩

abbrev hbmTy0_1 (i : Nat) : BufTy := match i % 128 with
  | 0 => ⟨S_, .f32⟩
  | 1 => ⟨S32x2048, .f32⟩
  | 2 => ⟨S32x2048, .f32⟩
  | 3 => ⟨S32x2048x1, .f32⟩
  | 4 => ⟨S32x2048x2048, .f32⟩
  | 5 => ⟨S32x2048x2048, .f32⟩
  | 6 => ⟨S32x2048x2048, .f32⟩
  | 7 => ⟨S_, .f32⟩
  | 8 => ⟨S32x2048, .f32⟩
  | 9 => ⟨S32x2048x1, .f32⟩
  | 10 => ⟨S32x2048x2048, .f32⟩
  | 11 => ⟨S32x2048x2048, .f32⟩
  | 12 => ⟨S32x128x2048, .f32⟩
  | 13 => ⟨S2048x32x128, .f32⟩
  | 14 => ⟨S2048x4096, .f32⟩
  | 15 => ⟨S2048x4096, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_cst_8 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_10 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_11 : Ref sig .tc := ⟨.hbm, 121, rfl⟩
abbrev main_call0_v0 : Ref sig .tc := ⟨.hbm, 122, rfl⟩
abbrev main_call0_v1 : Ref sig .tc := ⟨.hbm, 123, rfl⟩
abbrev main_call0_v2 : Ref sig .tc := ⟨.hbm, 124, rfl⟩
abbrev main_v100 : Ref sig .tc := ⟨.hbm, 125, rfl⟩
abbrev main_cst_12 : Ref sig .tc := ⟨.hbm, 126, rfl⟩
abbrev main_v101 : Ref sig .tc := ⟨.hbm, 127, rfl⟩
abbrev main_cst_13 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_14 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩

abbrev nD : Nat := 1
abbrev τ : Topo := Topo.v7x

variable {F : FTy → Type} [FloatOps F]
-- ==== Proof.RunI.Calls.lean ====
/- The calls of @main that carry nothing between points (0, 1, 2 and 4), each at the buffer contents it is entered from: its windows' blocks, what its body leaves, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0__stage1_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x4096 := Rect.unit (s := S256x4096) ![0, 0] S256x4096.size inb_S256x4096_S256x4096_0_0
abbrev r0_1 : Rect S4096x1536 := Rect.unit (s := S4096x1536) ![0, 0] S4096x1536.size inb_S4096x1536_S4096x1536_0_0
abbrev r0_2 : Rect S1x1536 := Rect.unit (s := S1x1536) ![0, 0] S1x1536.size inb_S1x1536_S1x1536_0_0
abbrev r0_3 : Rect S256x1536 := Rect.unit (s := S256x1536) ![0, 0] S256x1536.size inb_S256x1536_S256x1536_0_0
abbrev r0_4 : Rect S4096x576 := Rect.unit (s := S4096x576) ![0, 0] S4096x576.size inb_S4096x576_S4096x576_0_0
abbrev r0_5 : Rect S1x512 := Rect.unit (s := S1x512) ![0, 0] S1x512.size inb_S1x512_S1x512_0_0
abbrev r0_6 : Rect S256x512 := Rect.unit (s := S256x512) ![0, 0] S256x512.size inb_S256x512_S256x512_0_0
abbrev r0_7 : Rect S256x64 := Rect.unit (s := S256x64) ![0, 0] S256x64.size inb_S256x64_S256x64_0_0

/-! ## What the body leaves in each output window's buffer -/

/-- Window 7's staging buffer after the body, from the input windows' blocks: its 1 store as pieces, LAST
    FIRST (Lib/Pipeline/FrameBody.lean `View.canon`; the payloads are the skeleton's). -/
def out0_7 (x0 : Vec F S256x4096 .f32) (x1 : Vec F S4096x1536 .f32) (x2 : Vec F S4096x576 .f32) (x3 : Vec F S1x1536 .f32) (x4 : Vec F S1x512 .f32) (x5 : Vec F S256x64 .f32) (x6 : Vec F S256x64 .f32) : Vec F S256x1536 .bf16 :=
  View.canon [⟨r0_3, k0_pay4 (View.ld x0 r0_0) (View.ld x1 r0_1) (View.ld x3 r0_2)⟩]

/-- Its stores tile the buffer (checked by evaluation), so they cover it. -/
theorem cover0_7 (p0 : Vec F S256x1536 .bf16) (y : S256x1536.Idx) :
    ∃ pc ∈ ([⟨r0_3, p0⟩] : List (View.Piece (Elt F) S256x1536 .bf16)), y ∈ pc.1.set :=
  View.cover_of_tiled [⟨r0_3, p0⟩] S256x1536.size (by rfl) y

/-- Window 8's staging buffer after the body, from the input windows' blocks: its 1 store as pieces, LAST
    FIRST (Lib/Pipeline/FrameBody.lean `View.canon`; the payloads are the skeleton's). -/
def out0_8 (x0 : Vec F S256x4096 .f32) (x1 : Vec F S4096x1536 .f32) (x2 : Vec F S4096x576 .f32) (x3 : Vec F S1x1536 .f32) (x4 : Vec F S1x512 .f32) (x5 : Vec F S256x64 .f32) (x6 : Vec F S256x64 .f32) : Vec F S256x512 .bf16 :=
  View.canon [⟨r0_6, k0_pay1 (k0_pay6 (View.ld x0 r0_0) (View.ld x2 r0_4)) (View.ld x4 r0_5)⟩]

/-- Its stores tile the buffer (checked by evaluation), so they cover it. -/
theorem cover0_8 (p0 : Vec F S256x512 .bf16) (y : S256x512.Idx) :
    ∃ pc ∈ ([⟨r0_6, p0⟩] : List (View.Piece (Elt F) S256x512 .bf16)), y ∈ pc.1.set :=
  View.cover_of_tiled [⟨r0_6, p0⟩] S256x512.size (by rfl) y

/-- Window 9's staging buffer after the body, from the input windows' blocks: its 1 store as pieces, LAST
    FIRST (Lib/Pipeline/FrameBody.lean `View.canon`; the payloads are the skeleton's). -/
def out0_9 (x0 : Vec F S256x4096 .f32) (x1 : Vec F S4096x1536 .f32) (x2 : Vec F S4096x576 .f32) (x3 : Vec F S1x1536 .f32) (x4 : Vec F S1x512 .f32) (x5 : Vec F S256x64 .f32) (x6 : Vec F S256x64 .f32) : Vec F S256x64 .bf16 :=
  View.canon [⟨r0_7, k0_pay2 (k0_pay5 (View.ld x0 r0_0) (View.ld x2 r0_4)) (View.ld x5 r0_7) (View.ld x6 r0_7)⟩]

/-- Its stores tile the buffer (checked by evaluation), so they cover it. -/
theorem cover0_9 (p0 : Vec F S256x64 .bf16) (y : S256x64.Idx) :
    ∃ pc ∈ ([⟨r0_7, p0⟩] : List (View.Piece (Elt F) S256x64 .bf16)), y ∈ pc.1.set :=
  View.cover_of_tiled [⟨r0_7, p0⟩] S256x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x4096 .f32) (harg1 : arg1.IsWhole) (arg2 : Memref sig .tc .vmem S4096x1536 .f32) (harg2 : arg2.IsWhole) (arg3 : Memref sig .tc .vmem S4096x576 .f32) (harg3 : arg3.IsWhole) (arg4 : Memref sig .tc .vmem S1x1536 .f32) (harg4 : arg4.IsWhole) (arg5 : Memref sig .tc .vmem S1x512 .f32) (harg5 : arg5.IsWhole) (arg6 : Memref sig .tc .vmem S256x64 .f32) (harg6 : arg6.IsWhole) (arg7 : Memref sig .tc .vmem S256x64 .f32) (harg7 : arg7.IsWhole) (arg8 : Memref sig .tc .vmem S256x1536 .bf16) (harg8 : arg8.IsWhole) (arg9 : Memref sig .tc .vmem S256x512 .bf16) (harg9 : arg9.IsWhole) (arg10 : Memref sig .tc .vmem S256x64 .bf16) (harg10 : arg10.IsWhole)
    (x0 : Vec F S256x4096 .f32) (x1 : Vec F S4096x1536 .f32) (x2 : Vec F S4096x576 .f32) (x3 : Vec F S1x1536 .f32) (x4 : Vec F S1x512 .f32) (x5 : Vec F S256x64 .f32) (x6 : Vec F S256x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10) K := by
  simp only [cc0__stage1_kernel_eq_skeleton]; unfold cc0__stage1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- Call 0, window 1: what its buffer holds after a point's body. -/
theorem after0_1 (c : Dev nD) (t : Fin cfg0.N) : (dat0 V c).after 1 t = iblk0 V c 1 t := by dsimp only [dat0]
/-- Call 0, window 2: what its buffer holds after a point's body. -/
theorem after0_2 (c : Dev nD) (t : Fin cfg0.N) : (dat0 V c).after 2 t = iblk0 V c 2 t := by dsimp only [dat0]
/-- Call 0, window 3: what its buffer holds after a point's body. -/
theorem after0_3 (c : Dev nD) (t : Fin cfg0.N) : (dat0 V c).after 3 t = iblk0 V c 3 t := by dsimp only [dat0]
/-- Call 0, window 4: what its buffer holds after a point's body. -/
theorem after0_4 (c : Dev nD) (t : Fin cfg0.N) : (dat0 V c).after 4 t = iblk0 V c 4 t := by dsimp only [dat0]
/-- Call 0, window 5: what its buffer holds after a point's body. -/
theorem after0_5 (c : Dev nD) (t : Fin cfg0.N) : (dat0 V c).after 5 t = iblk0 V c 5 t := by dsimp only [dat0]
/-- Call 0, window 6: what its buffer holds after a point's body. -/
theorem after0_6 (c : Dev nD) (t : Fin cfg0.N) : (dat0 V c).after 6 t = iblk0 V c 6 t := by dsimp only [dat0]
/-- Call 0, window 7: what its buffer holds after a point's body. -/
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
/-- Call 0, window 8: what its buffer holds after a point's body. -/
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
/-- Call 0, window 9: what its buffer holds after a point's body. -/
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- Call 0, window 1: what its buffer holds before a point's body. -/
theorem before0_1 (c : Dev nD) (t : Fin cfg0.N) (d) : (dat0 V c).before 1 t d = iblk0 V c 1 t :=
  before0_1_of V (dat0 V c) (A_eq0 V c 1) (after0_1 V c) t d
/-- Call 0, window 2: what its buffer holds before a point's body. -/
theorem before0_2 (c : Dev nD) (t : Fin cfg0.N) (d) : (dat0 V c).before 2 t d = iblk0 V c 2 t :=
  before0_2_of V (dat0 V c) (A_eq0 V c 2) (after0_2 V c) t d
/-- Call 0, window 3: what its buffer holds before a point's body. -/
theorem before0_3 (c : Dev nD) (t : Fin cfg0.N) (d) : (dat0 V c).before 3 t d = iblk0 V c 3 t :=
  before0_3_of V (dat0 V c) (A_eq0 V c 3) (after0_3 V c) t d
/-- Call 0, window 4: what its buffer holds before a point's body. -/
theorem before0_4 (c : Dev nD) (t : Fin cfg0.N) (d) : (dat0 V c).before 4 t d = iblk0 V c 4 t :=
  before0_4_of V (dat0 V c) (A_eq0 V c 4) (after0_4 V c) t d
/-- Call 0, window 5: what its buffer holds before a point's body. -/
theorem before0_5 (c : Dev nD) (t : Fin cfg0.N) (d) : (dat0 V c).before 5 t d = iblk0 V c 5 t :=
  before0_5_of V (dat0 V c) (A_eq0 V c 5) (after0_5 V c) t d
/-- Call 0, window 6: what its buffer holds before a point's body. -/
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__matmul_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1536x6144 := Rect.unit (s := S1536x6144) ![0, 0] S1536x6144.size inb_S1536x6144_S1536x6144_0_0
abbrev r1_1 : Rect S256x1536 := Rect.unit (s := S256x1536) ![0, 0] S256x1536.size inb_S256x1536_S256x1536_0_0
abbrev r1_2 : Rect S256x6144 := Rect.unit (s := S256x6144) ![0, 0] S256x6144.size inb_S256x6144_S256x6144_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S256x1536 .bf16) (x1 : Vec F S1536x6144 .f32) : Vec F S256x6144 .bf16 :=
  View.canon [⟨r1_2, k1_pay1 (View.ld x1 r1_0) (View.ld x0 r1_1)⟩]

/-- Its stores tile the buffer (checked by evaluation), so they cover it. -/
theorem cover1_2 (p0 : Vec F S256x6144 .bf16) (y : S256x6144.Idx) :
    ∃ pc ∈ ([⟨r1_2, p0⟩] : List (View.Piece (Elt F) S256x6144 .bf16)), y ∈ pc.1.set :=
  View.cover_of_tiled [⟨r1_2, p0⟩] S256x6144.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S256x1536 .bf16) (harg1 : arg1.IsWhole) (arg2 : Memref sig .tc .vmem S1536x6144 .f32) (harg2 : arg2.IsWhole) (arg3 : Memref sig .tc .vmem S256x6144 .bf16) (harg3 : arg3.IsWhole)
    (x0 : Vec F S256x1536 .bf16) (x1 : Vec F S1536x6144 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- Call 1, window 1: what its buffer holds after a point's body. -/
theorem after1_1 (c : Dev nD) (t : Fin cfg1.N) : (dat1 V c).after 1 t = iblk1 V c 1 t := by dsimp only [dat1]
/-- Call 1, window 2: what its buffer holds after a point's body. -/
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- Call 1, window 1: what its buffer holds before a point's body. -/
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__matmul_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x8192 := Rect.unit (s := S512x8192) ![0, 0] S512x8192.size inb_S512x8192_S512x8192_0_0
abbrev r2_1 : Rect S256x512 := Rect.unit (s := S256x512) ![0, 0] S256x512.size inb_S256x512_S256x512_0_0
abbrev r2_2 : Rect S256x8192 := Rect.unit (s := S256x8192) ![0, 0] S256x8192.size inb_S256x8192_S256x8192_0_0

/-! ## What the body leaves in each output window's buffer -/

/-- Window 2's staging buffer after the body, from the input windows' blocks: its 1 store as pieces, LAST
    FIRST (Lib/Pipeline/FrameBody.lean `View.canon`; the payloads are the skeleton's). -/
def out2_2 (x0 : Vec F S256x512 .bf16) (x1 : Vec F S512x8192 .f32) : Vec F S256x8192 .bf16 :=
  View.canon [⟨r2_2, k2_pay1 (View.ld x1 r2_0) (View.ld x0 r2_1)⟩]

/-- Its stores tile the buffer (checked by evaluation), so they cover it. -/
theorem cover2_2 (p0 : Vec F S256x8192 .bf16) (y : S256x8192.Idx) :
    ∃ pc ∈ ([⟨r2_2, p0⟩] : List (View.Piece (Elt F) S256x8192 .bf16)), y ∈ pc.1.set :=
  View.cover_of_tiled [⟨r2_2, p0⟩] S256x8192.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S256x512 .bf16) (harg1 : arg1.IsWhole) (arg2 : Memref sig .tc .vmem S512x8192 .f32) (harg2 : arg2.IsWhole) (arg3 : Memref sig .tc .vmem S256x8192 .bf16) (harg3 : arg3.IsWhole)
    (x0 : Vec F S256x512 .bf16) (x1 : Vec F S512x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
/-- Call 2, window 1: what its buffer holds after a point's body. -/
theorem after2_1 (c : Dev nD) (t : Fin cfg2.N) : (dat2 V c).after 1 t = iblk2 V c 1 t := by dsimp only [dat2]
/-- Call 2, window 2: what its buffer holds after a point's body. -/
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- Call 2, window 1: what its buffer holds before a point's body. -/
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 4 of @main: custom_call 4, `cc4__oproj_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S512x4096 := Rect.unit (s := S512x4096) ![0, 0] S512x4096.size inb_S512x4096_S512x4096_0_0
abbrev r4_1 : Rect S4096x4096 := Rect.unit (s := S4096x4096) ![0, 0] S4096x4096.size inb_S4096x4096_S4096x4096_0_0

/-! ## What the body leaves in each output window's buffer -/

/-- Window 2's staging buffer after the body, from the input windows' blocks: its 1 store as pieces, LAST
    FIRST (Lib/Pipeline/FrameBody.lean `View.canon`; the payloads are the skeleton's). -/
def out4_2 (x0 : Vec F S512x4096 .bf16) (x1 : Vec F S4096x4096 .bf16) : Vec F S512x4096 .f32 :=
  View.canon [⟨r4_0, k4_pay1 (View.ld x0 r4_0) (View.ld x1 r4_1)⟩]

/-- Its stores tile the buffer (checked by evaluation), so they cover it. -/
theorem cover4_2 (p0 : Vec F S512x4096 .f32) (y : S512x4096.Idx) :
    ∃ pc ∈ ([⟨r4_0, p0⟩] : List (View.Piece (Elt F) S512x4096 .f32)), y ∈ pc.1.set :=
  View.cover_of_tiled [⟨r4_0, p0⟩] S512x4096.size (by rfl) y

/-! ## The body's triple -/

set_option maxHeartbeats 1000000 in
/-- The kernel body on whole staging memrefs, the inputs' at read contents `xW` and the outputs' at anything, runs to
    the continuation holding the inputs' as they were and each output's at `out4_W` of the inputs': the printed functions
    are their skeletons (`Gen.*_eq_skeleton`), which `sl_exec` runs (Lib/Exec.lean), through every part call. -/
theorem sound_kernel4 (c : Dev nD) (E : Set ℕ) (i : grid4.Coords) (arg1 : Memref sig .tc .vmem S512x4096 .bf16) (harg1 : arg1.IsWhole) (arg2 : Memref sig .tc .vmem S4096x4096 .bf16) (harg2 : arg2.IsWhole) (arg3 : Memref sig .tc .vmem S512x4096 .f32) (harg3 : arg3.IsWhole)
    (x0 : Vec F S512x4096 .bf16) (x1 : Vec F S4096x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__oproj_kernel i arg1 harg1 arg2 harg2 arg3 harg3) K := by
  simp only [cc4__oproj_kernel_eq_skeleton]; unfold cc4__oproj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at
    point `t` each input's buffer at its block and each output's at `out4_W` of the input blocks; the invariant the
    class's (Lib/Pipeline/Frame.lean `ΦA`: the scoped rest and the generator register, untouched); nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`, never `rfl`: Lib/Pipeline.lean `Dat`). -/
theorem after4_0 (c : Dev nD) (t : Fin cfg4.N) : (dat4 V c).after 0 t = iblk4 V c 0 t := by dsimp only [dat4]
/-- Call 4, window 1: what its buffer holds after a point's body. -/
theorem after4_1 (c : Dev nD) (t : Fin cfg4.N) : (dat4 V c).after 1 t = iblk4 V c 1 t := by dsimp only [dat4]
/-- Call 4, window 2: what its buffer holds after a point's body. -/
theorem after4_2 (c : Dev nD) (t : Fin cfg4.N) : (dat4 V c).after 2 t = out4_2 (iblk4 V c 0 t) (iblk4 V c 1 t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
/-- Call 4, window 1: what its buffer holds before a point's body. -/
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_W`), so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.Gen

end
-- ==== Proof.RunI.Attn.lean ====
/- The attention call (3): its windows' blocks, its branch conditions over the points, and the buffers its runs are stated over. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The frame claim's post from the frame run's -/

/-- The condition of the body's `scf.if` 0 (`k3_h1`), from the grid coordinates (the skeleton's scalar
    chain substituted). -/
abbrev cond3_0 (i : grid3.Coords) : Prop := (Scalar.cmpi .ne (Scalar.extui (Scalar.cmpi .eq (Scalar.select (Scalar.andi (Scalar.cmpi .ne (Scalar.subi (Scalar.extui (Scalar.cmpi .sgt (BitVec.ofNat 32 (i 1).val) 0#32)) (Scalar.extui (Scalar.cmpi .slt (BitVec.ofNat 32 (i 1).val) 0#32))) (Scalar.subi (Scalar.extui (Scalar.cmpi .sgt 2#32 0#32)) (Scalar.extui (Scalar.cmpi .slt 2#32 0#32)))) (Scalar.cmpi .ne (Scalar.remsi (BitVec.ofNat 32 (i 1).val) 2#32) 0#32)) (Scalar.subi (Scalar.divsi (BitVec.ofNat 32 (i 1).val) 2#32) 1#32) (Scalar.divsi (BitVec.ofNat 32 (i 1).val) 2#32)) 0#32)) 0#32) = 1#1
/-- It holds at the points whose coordinates have i1 ≤ 1 — decided over the grid. -/
theorem hcond3_0 : ∀ t : Fin cfg3.N, cond3_0 (grid3.coords t) ↔ t.val % 3 ≤ 1 :=
  (by decide +kernel : ∀ t : Fin grid3.N, cond3_0 (grid3.coords t) ↔ t.val % 3 ≤ 1)

/-- The condition of the body's `scf.if` 1 (`k3_h2`), from the grid coordinates (the skeleton's scalar
    chain substituted). -/
abbrev cond3_1 (i : grid3.Coords) : Prop := (Scalar.cmpi .ne (Scalar.extui (Scalar.cmpi .ne (Scalar.select (Scalar.andi (Scalar.cmpi .ne (Scalar.subi (Scalar.extui (Scalar.cmpi .sgt (BitVec.ofNat 32 (i 1).val) 0#32)) (Scalar.extui (Scalar.cmpi .slt (BitVec.ofNat 32 (i 1).val) 0#32))) (Scalar.subi (Scalar.extui (Scalar.cmpi .sgt 2#32 0#32)) (Scalar.extui (Scalar.cmpi .slt 2#32 0#32)))) (Scalar.cmpi .ne (Scalar.remsi (BitVec.ofNat 32 (i 1).val) 2#32) 0#32)) (Scalar.subi (Scalar.divsi (BitVec.ofNat 32 (i 1).val) 2#32) 1#32) (Scalar.divsi (BitVec.ofNat 32 (i 1).val) 2#32)) 0#32)) 0#32) = 1#1
/-- It holds at the points ≡ 2 (mod 3) — decided over the grid. -/
theorem hcond3_1 : ∀ t : Fin cfg3.N, cond3_1 (grid3.coords t) ↔ t.val % 3 = 2 :=
  (by decide +kernel : ∀ t : Fin grid3.N, cond3_1 (grid3.coords t) ↔ t.val % 3 = 2)

/-- The condition of the body's `scf.if` 2 (`k3_h3`), from the grid coordinates (the skeleton's scalar
    chain substituted). -/
abbrev cond3_2 (i : grid3.Coords) : Prop := (Scalar.cmpi .ne (Scalar.extui (Scalar.cmpi .eq (Scalar.select (Scalar.andi (Scalar.cmpi .ne (Scalar.subi (Scalar.extui (Scalar.cmpi .sgt (BitVec.ofNat 32 (i 1).val) 0#32)) (Scalar.extui (Scalar.cmpi .slt (BitVec.ofNat 32 (i 1).val) 0#32))) (Scalar.subi (Scalar.extui (Scalar.cmpi .sgt 2#32 0#32)) (Scalar.extui (Scalar.cmpi .slt 2#32 0#32)))) (Scalar.cmpi .ne (Scalar.remsi (BitVec.ofNat 32 (i 1).val) 2#32) 0#32)) (Scalar.subi (Scalar.divsi (BitVec.ofNat 32 (i 1).val) 2#32) 1#32) (Scalar.divsi (BitVec.ofNat 32 (i 1).val) 2#32)) 0#32)) 0#32) = 1#1
/-- It holds at the points whose coordinates have i1 ≤ 1 — decided over the grid. -/
theorem hcond3_2 : ∀ t : Fin cfg3.N, cond3_2 (grid3.coords t) ↔ t.val % 3 ≤ 1 :=
  (by decide +kernel : ∀ t : Fin grid3.N, cond3_2 (grid3.coords t) ↔ t.val % 3 ≤ 1)

/-- The condition of the body's `scf.if` 3 (`k3_h4`), from the grid coordinates (the skeleton's scalar
    chain substituted). -/
abbrev cond3_3 (i : grid3.Coords) : Prop := (Scalar.cmpi .ne (Scalar.extui (Scalar.cmpi .ne (Scalar.select (Scalar.andi (Scalar.cmpi .ne (Scalar.subi (Scalar.extui (Scalar.cmpi .sgt (BitVec.ofNat 32 (i 1).val) 0#32)) (Scalar.extui (Scalar.cmpi .slt (BitVec.ofNat 32 (i 1).val) 0#32))) (Scalar.subi (Scalar.extui (Scalar.cmpi .sgt 2#32 0#32)) (Scalar.extui (Scalar.cmpi .slt 2#32 0#32)))) (Scalar.cmpi .ne (Scalar.remsi (BitVec.ofNat 32 (i 1).val) 2#32) 0#32)) (Scalar.subi (Scalar.divsi (BitVec.ofNat 32 (i 1).val) 2#32) 1#32) (Scalar.divsi (BitVec.ofNat 32 (i 1).val) 2#32)) 0#32)) 0#32) = 1#1
/-- It holds at the points ≡ 2 (mod 3) — decided over the grid. -/
theorem hcond3_3 : ∀ t : Fin cfg3.N, cond3_3 (grid3.coords t) ↔ t.val % 3 = 2 :=
  (by decide +kernel : ∀ t : Fin grid3.N, cond3_3 (grid3.coords t) ↔ t.val % 3 = 2)

/-- The condition of the body's `scf.if` 4 (`k3_h5`), from the grid coordinates (the skeleton's scalar
    chain substituted). -/
abbrev cond3_4 (i : grid3.Coords) : Prop := k3_cond5 i = 1#1
/-- It holds at the points whose coordinates have i1 ≠ 1 — decided over the grid. -/
theorem hcond3_4 : ∀ t : Fin cfg3.N, cond3_4 (grid3.coords t) ↔ t.val % 3 ≠ 1 :=
  (by decide +kernel : ∀ t : Fin grid3.N, cond3_4 (grid3.coords t) ↔ t.val % 3 ≠ 1)

/-! ## Where the windows are idle (the printed configuration's table `Cfg.idle`) -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- Window 3 is never idle (an input). -/
theorem liveAt3_3 : ∀ t : Fin cfg3.N, cfg3.idle 3 (grid3.coords t) = false := fun _ => rfl
/-- Window 4 is never idle (an input). -/
theorem liveAt3_4 : ∀ t : Fin cfg3.N, cfg3.idle 4 (grid3.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds3_A (i : grid3.Coords) : Prop := cond3_0 i ∧ ¬cond3_1 i ∧ cond3_2 i ∧ ¬cond3_3 i ∧ cond3_4 i
instance conds3_A.dec (i : grid3.Coords) : Decidable (conds3_A i) :=
  @instDecidableAnd _ _ inferInstance (@instDecidableAnd _ _ inferInstance (@instDecidableAnd _ _ inferInstance (@instDecidableAnd _ _ inferInstance inferInstance)))
/-- Case B's branch conditions on the grid, as one proposition. -/
abbrev conds3_B (i : grid3.Coords) : Prop := cond3_0 i ∧ ¬cond3_1 i ∧ cond3_2 i ∧ ¬cond3_3 i ∧ ¬cond3_4 i
instance conds3_B.dec (i : grid3.Coords) : Decidable (conds3_B i) :=
  @instDecidableAnd _ _ inferInstance (@instDecidableAnd _ _ inferInstance (@instDecidableAnd _ _ inferInstance (@instDecidableAnd _ _ inferInstance inferInstance)))
/-- Case C's branch conditions on the grid, as one proposition. -/
abbrev conds3_C (i : grid3.Coords) : Prop := ¬cond3_0 i ∧ cond3_1 i ∧ ¬cond3_2 i ∧ cond3_3 i ∧ cond3_4 i
instance conds3_C.dec (i : grid3.Coords) : Decidable (conds3_C i) :=
  @instDecidableAnd _ _ inferInstance (@instDecidableAnd _ _ inferInstance (@instDecidableAnd _ _ inferInstance (@instDecidableAnd _ _ inferInstance inferInstance)))
/-- At the points of case A the printed configuration (`Cfg.idle`) calls output 5 live: the case stores into it. -/
theorem liveAt3_5_A : ∀ t : Fin cfg3.N, cond3_0 (grid3.coords t) → ¬cond3_1 (grid3.coords t) → cond3_2 (grid3.coords t) → ¬cond3_3 (grid3.coords t) → cond3_4 (grid3.coords t) → cfg3.idle 5 (grid3.coords t) = false :=
  fun t h0 h1 h2 h3 h4 => (by decide +kernel : ∀ t : Fin cfg3.N, conds3_A (grid3.coords t) → cfg3.idle 5 (grid3.coords t) = false) t ⟨h0, h1, h2, h3, h4⟩
/-- At the points of case B the printed configuration (`Cfg.idle`) calls output 5 idle: the case stores nothing into it. -/
theorem idleAt3_5_B : ∀ t : Fin cfg3.N, cond3_0 (grid3.coords t) → ¬cond3_1 (grid3.coords t) → cond3_2 (grid3.coords t) → ¬cond3_3 (grid3.coords t) → ¬cond3_4 (grid3.coords t) → cfg3.idle 5 (grid3.coords t) = true :=
  fun t h0 h1 h2 h3 h4 => (by decide +kernel : ∀ t : Fin cfg3.N, conds3_B (grid3.coords t) → cfg3.idle 5 (grid3.coords t) = true) t ⟨h0, h1, h2, h3, h4⟩
/-- At the points of case B the pipeline does not write output 5's block back. -/
theorem noFlush3_5_B : ∀ t : Fin cfg3.N, cond3_0 (grid3.coords t) → ¬cond3_1 (grid3.coords t) → cond3_2 (grid3.coords t) → ¬cond3_3 (grid3.coords t) → ¬cond3_4 (grid3.coords t) → (cfg3.win 5).flush t = false :=
  fun t h0 h1 h2 h3 h4 => (by decide +kernel : ∀ t : Fin cfg3.N, conds3_B (grid3.coords t) → (cfg3.win 5).flush t = false) t ⟨h0, h1, h2, h3, h4⟩
/-- At the points of case C the printed configuration (`Cfg.idle`) calls output 5 live: the case stores into it. -/
theorem liveAt3_5_C : ∀ t : Fin cfg3.N, ¬cond3_0 (grid3.coords t) → cond3_1 (grid3.coords t) → ¬cond3_2 (grid3.coords t) → cond3_3 (grid3.coords t) → cond3_4 (grid3.coords t) → cfg3.idle 5 (grid3.coords t) = false :=
  fun t h0 h1 h2 h3 h4 => (by decide +kernel : ∀ t : Fin cfg3.N, conds3_C (grid3.coords t) → cfg3.idle 5 (grid3.coords t) = false) t ⟨h0, h1, h2, h3, h4⟩

/-! ## The kernel body on any staging memrefs: a subtype the run finds -/

/-- One staging buffer of output window 5, through which its contents are stated (`View.read_writes_of_cover`: the
    choice does not matter). -/
abbrev VO3_5 : View sig .tc .vmem S1024x256 .bf16 := (Memref.whole cc3_stg5_0 : Memref sig .tc .vmem S1024x256 .bf16).view
/-- Each window's current staging memref at point `t`, spelled as the pipeline passes it (`bodyAt3`), and its wholeness. -/
abbrev ms3_0 (t : Fin cfg3.N) : Memref sig .tc .vmem S1024x384 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x256 .bf16 := win3_5.stage (cfg3.slots t 5)
abbrev hs3_5 (t : Fin cfg3.N) : (ms3_5 t).IsWhole := hstage3_5 ((cfg3.slots t 5).cast nbuf3_5)
/-- The scratch operands: whole scoped buffers of the kernel's own, passed beside the windows. -/
abbrev scM3_0 : Memref sig .tc .vmem S1024x256 .f32 := Memref.whole cc3_scratch0
abbrev scM3_1 : Memref sig .tc .vmem S1024x2 .f32 := Memref.whole cc3_scratch1
/-- The scratch `arg8` the kernel carries between points, as a view: what it holds is stated through it. -/
abbrev VS3_0 : View sig .tc .vmem S1024x256 .f32 := scM3_0.view
/-- The scratch `arg9` the kernel carries between points, as a view: what it holds is stated through it. -/
abbrev VS3_1 : View sig .tc .vmem S1024x2 .f32 := scM3_1.view

/-- What rides beside the two carried scratch buffers through the region: the other scoped buffers, unopened, and the
    generator register at some state. -/
def restG3 (c : Dev nD) : sProp 𝕄 :=
  iprop(Pipeline.scopedRestBut (Ix := Unit) (Name := ℕ) (U := UR sig nD τ) (Lvl := ℕ) (Val := Elt F) spec3 c [cc3_scratch0, cc3_scratch1] ∗ (∃ r, prngReg c r))

/-- The frame kit's invariant with the scratch operands as memrefs owned at some contents (`Gen.scopedRest3_eq`,
    Lib/Memref.lean `owns_whole`): what the body obligation hands the run and takes back. -/
theorem PhiA3_eq (c : Dev nD) :
    (Pipeline.ΦA spec3 c : sProp 𝕄)
      = iprop(iprop((∃ d, owns (c : Thread nD τ) scM3_0 fullShare d) ∗ (∃ d, owns (c : Thread nD τ) scM3_1 fullShare d)) ∗ restG3 (F := F) c) := by
  unfold Pipeline.ΦA restG3; rw [scopedRest3_split]; simp only [scM3_0, scM3_1, owns_whole]
  refine BI.equiv_iff.mp ⟨(?_ : (_ : sProp 𝕄) ⊢ _), (?_ : (_ : sProp 𝕄) ⊢ _)⟩
  · iintro ⟨⟨HS, Hr⟩, Hg⟩
    isplitl [HS]; · iexact HS
    isplitl [Hr]; · iexact Hr
    iexact Hg
  iintro ⟨HS, Hr, Hg⟩
  isplitl [HS Hr]
  · isplitl [HS]; · iexact HS
    iexact Hr
  iexact Hg

end Cert.KernelIdeal.Gen

end
-- ==== Proof.RunI.AttnA.lean ====
/- The attention body's run at the points of case A. -/
module

public import proofs.«01_k».proof.Proof.RunI.Attn

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 taken, `scf.if` 3 not taken, `scf.if` 4 taken: points 0, 3, … 45: 16 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_A (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : cond3_4 i)
    (x0 : Vec F S1024x384 .bf16) (x1 : Vec F S1024x512 .bf16) (x2 : Vec F S1024x64 .bf16) (x3 : Vec F S1024x64 .f32) (x4 : Vec F S1024x64 .f32) :
    Σ' (L5 : List (View.Piece (Elt F) S1024x256 .bf16)), Σ' (LS0 : List (View.Piece (Elt F) S1024x256 .f32)), { LS1 : List (View.Piece (Elt F) S1024x2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨?_, ?_, ?_, fun E K => ?run⟩
  case run =>
    simp only [cc3__attn_kernel_eq_skeleton]; unfold cc3__attn_kernel_skel
    simp only [k3_part3_eq_skeleton, k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Gen

end
-- ==== Proof.RunI.AttnB.lean ====
/- The attention body's run at the points of case B. -/
module

public import proofs.«01_k».proof.Proof.RunI.AttnA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 taken, `scf.if` 1 not taken, `scf.if` 2 taken, `scf.if` 3 not taken, `scf.if` 4 not taken: points 1, 4, … 46: 16 of 48), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_B (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : ¬cond3_4 i)
    (x0 : Vec F S1024x384 .bf16) (x1 : Vec F S1024x512 .bf16) (x2 : Vec F S1024x64 .bf16) (x3 : Vec F S1024x64 .f32) (x4 : Vec F S1024x64 .f32) :
    Σ' (L5 : List (View.Piece (Elt F) S1024x256 .bf16)), Σ' (LS0 : List (View.Piece (Elt F) S1024x256 .f32)), { LS1 : List (View.Piece (Elt F) S1024x2 .f32) //
      ∀ (xi5 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨[], ?_, ?_, fun xi5 E K => ?run⟩
  case run =>
    simp only [cc3__attn_kernel_eq_skeleton]; unfold cc3__attn_kernel_skel
    simp only [k3_part3_eq_skeleton, k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Gen

end
-- ==== Proof.RunI.AttnC.lean ====
/- The attention body's run at the points of case C. -/
module

public import proofs.«01_k».proof.Proof.RunI.AttnB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 not taken, `scf.if` 3 taken, `scf.if` 4 taken: points 2, 5, … 47: 16 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_C (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : ¬cond3_0 i) (hc1 : cond3_1 i) (hc2 : ¬cond3_2 i) (hc3 : cond3_3 i) (hc4 : cond3_4 i)
    (x0 : Vec F S1024x384 .bf16) (x1 : Vec F S1024x512 .bf16) (x2 : Vec F S1024x64 .bf16) (x3 : Vec F S1024x64 .f32) (x4 : Vec F S1024x64 .f32) (xs0 : Vec F S1024x256 .f32) (xs1 : Vec F S1024x2 .f32) :
    Σ' (L5 : List (View.Piece (Elt F) S1024x256 .bf16)), Σ' (LS0 : List (View.Piece (Elt F) S1024x256 .f32)), { LS1 : List (View.Piece (Elt F) S1024x2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨?_, ?_, ?_, fun E K => ?run⟩
  case run =>
    simp only [cc3__attn_kernel_eq_skeleton]; unfold cc3__attn_kernel_skel
    simp only [k3_part3_eq_skeleton, k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Gen

end
-- ==== Proof.RunI.AttnDat.lean ====
/- The attention call (3): what each point leaves in the output block and in the two scratch buffers carried to the next point, its proof data and its body obligation. -/
module

public import proofs.«01_k».proof.Proof.RunI.AttnC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Case A's pieces for output 5 tile its block (2 stores of `S1024x128`, checked by the kernel's evaluation: Lib/Ring.lean `Piece.tiledL`, linear in the pieces, through a loop's `@[irreducible]` trip theorem too), so they cover it. -/
theorem cover3_A_5 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : cond3_4 i)
    (x0 : Vec F S1024x384 .bf16) (x1 : Vec F S1024x512 .bf16) (x2 : Vec F S1024x64 .bf16) (x3 : Vec F S1024x64 .f32) (x4 : Vec F S1024x64 .f32) (y : S1024x256.Idx) :
    ∃ pc ∈ (kernelRun3_A c i arg2 harg2 arg3 harg3 arg4 harg4 arg5 harg5 arg6 harg6 arg7 harg7 arg8 harg8 arg9 harg9 hc0 hc1 hc2 hc3 hc4 x0 x1 x2 x3 x4).1, y ∈ pc.1.set :=
  View.cover_of_tiledL (kernelRun3_A c i arg2 harg2 arg3 harg3 arg4 harg4 arg5 harg5 arg6 harg6 arg7 harg7 arg8 harg8 arg9 harg9 hc0 hc1 hc2 hc3 hc4 x0 x1 x2 x3 x4).1 S1024x128.size (by sl_kernel_rfl) y

/-- What case A leaves in output 5's staging buffer: its pieces read back over junk. -/
def out3_A_5 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : cond3_4 i)
    (x0 : Vec F S1024x384 .bf16) (x1 : Vec F S1024x512 .bf16) (x2 : Vec F S1024x64 .bf16) (x3 : Vec F S1024x64 .f32) (x4 : Vec F S1024x64 .f32) : Vec F S1024x256 .bf16 :=
  VO3_5.read (Elt F) (VO3_5.writes (Elt F) VO3_5.junk (kernelRun3_A c i arg2 harg2 arg3 harg3 arg4 harg4 arg5 harg5 arg6 harg6 arg7 harg7 arg8 harg8 arg9 harg9 hc0 hc1 hc2 hc3 hc4 x0 x1 x2 x3 x4).1)

/-- Case A's pieces for scratch `arg8`, which the kernel carries between points, cover it: 2 pieces of `S1024x128` tiling it (Lib/Ring.lean `Piece.tiledL`). -/
theorem scover3_A_0 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : cond3_4 i)
    (x0 : Vec F S1024x384 .bf16) (x1 : Vec F S1024x512 .bf16) (x2 : Vec F S1024x64 .bf16) (x3 : Vec F S1024x64 .f32) (x4 : Vec F S1024x64 .f32) (y : S1024x256.Idx) :
    ∃ pc ∈ (kernelRun3_A c i arg2 harg2 arg3 harg3 arg4 harg4 arg5 harg5 arg6 harg6 arg7 harg7 arg8 harg8 arg9 harg9 hc0 hc1 hc2 hc3 hc4 x0 x1 x2 x3 x4).2.1, y ∈ pc.1.set :=
  View.cover_of_tiledL (kernelRun3_A c i arg2 harg2 arg3 harg3 arg4 harg4 arg5 harg5 arg6 harg6 arg7 harg7 arg8 harg8 arg9 harg9 hc0 hc1 hc2 hc3 hc4 x0 x1 x2 x3 x4).2.1 S1024x128.size (by sl_kernel_rfl) y

/-- What case A leaves in scratch `arg8`: its pieces read back over junk. -/
def sout3_A_0 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : cond3_4 i)
    (x0 : Vec F S1024x384 .bf16) (x1 : Vec F S1024x512 .bf16) (x2 : Vec F S1024x64 .bf16) (x3 : Vec F S1024x64 .f32) (x4 : Vec F S1024x64 .f32) : Vec F S1024x256 .f32 :=
  VS3_0.read (Elt F) (VS3_0.writes (Elt F) VS3_0.junk (kernelRun3_A c i arg2 harg2 arg3 harg3 arg4 harg4 arg5 harg5 arg6 harg6 arg7 harg7 arg8 harg8 arg9 harg9 hc0 hc1 hc2 hc3 hc4 x0 x1 x2 x3 x4).2.1)

/-- Case A's pieces for scratch `arg9`, which the kernel carries between points, cover it: 2 pieces of `S1024x1` tiling it (Lib/Ring.lean `Piece.tiledL`). -/
theorem scover3_A_1 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : cond3_4 i)
    (x0 : Vec F S1024x384 .bf16) (x1 : Vec F S1024x512 .bf16) (x2 : Vec F S1024x64 .bf16) (x3 : Vec F S1024x64 .f32) (x4 : Vec F S1024x64 .f32) (y : S1024x2.Idx) :
    ∃ pc ∈ (kernelRun3_A c i arg2 harg2 arg3 harg3 arg4 harg4 arg5 harg5 arg6 harg6 arg7 harg7 arg8 harg8 arg9 harg9 hc0 hc1 hc2 hc3 hc4 x0 x1 x2 x3 x4).2.2.1, y ∈ pc.1.set :=
  View.cover_of_tiledL (kernelRun3_A c i arg2 harg2 arg3 harg3 arg4 harg4 arg5 harg5 arg6 harg6 arg7 harg7 arg8 harg8 arg9 harg9 hc0 hc1 hc2 hc3 hc4 x0 x1 x2 x3 x4).2.2.1 S1024x1.size (by sl_kernel_rfl) y

/-- What case A leaves in scratch `arg9`: its pieces read back over junk. -/
def sout3_A_1 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : cond3_4 i)
    (x0 : Vec F S1024x384 .bf16) (x1 : Vec F S1024x512 .bf16) (x2 : Vec F S1024x64 .bf16) (x3 : Vec F S1024x64 .f32) (x4 : Vec F S1024x64 .f32) : Vec F S1024x2 .f32 :=
  VS3_1.read (Elt F) (VS3_1.writes (Elt F) VS3_1.junk (kernelRun3_A c i arg2 harg2 arg3 harg3 arg4 harg4 arg5 harg5 arg6 harg6 arg7 harg7 arg8 harg8 arg9 harg9 hc0 hc1 hc2 hc3 hc4 x0 x1 x2 x3 x4).2.2.1)

/-- Case B stores nothing into output 5 (the window is idle at its points and not written back there):
    no pieces — a placeholder (junk read back) that nothing consults, since at these points the window is neither
    written back nor read at the next point (Lib/Pipeline.lean "Idle points"). -/
def out3_B_5 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : ¬cond3_4 i)
    (x0 : Vec F S1024x384 .bf16) (x1 : Vec F S1024x512 .bf16) (x2 : Vec F S1024x64 .bf16) (x3 : Vec F S1024x64 .f32) (x4 : Vec F S1024x64 .f32) : Vec F S1024x256 .bf16 :=
  VO3_5.read (Elt F) (VO3_5.writes (Elt F) VO3_5.junk (kernelRun3_B c i arg2 harg2 arg3 harg3 arg4 harg4 arg5 harg5 arg6 harg6 arg7 harg7 arg8 harg8 arg9 harg9 hc0 hc1 hc2 hc3 hc4 x0 x1 x2 x3 x4).1)

/-- Case B's pieces for scratch `arg8`, which the kernel carries between points, cover it: 2 pieces of `S1024x128` tiling it (Lib/Ring.lean `Piece.tiledL`). -/
theorem scover3_B_0 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : ¬cond3_4 i)
    (x0 : Vec F S1024x384 .bf16) (x1 : Vec F S1024x512 .bf16) (x2 : Vec F S1024x64 .bf16) (x3 : Vec F S1024x64 .f32) (x4 : Vec F S1024x64 .f32) (y : S1024x256.Idx) :
    ∃ pc ∈ (kernelRun3_B c i arg2 harg2 arg3 harg3 arg4 harg4 arg5 harg5 arg6 harg6 arg7 harg7 arg8 harg8 arg9 harg9 hc0 hc1 hc2 hc3 hc4 x0 x1 x2 x3 x4).2.1, y ∈ pc.1.set :=
  View.cover_of_tiledL (kernelRun3_B c i arg2 harg2 arg3 harg3 arg4 harg4 arg5 harg5 arg6 harg6 arg7 harg7 arg8 harg8 arg9 harg9 hc0 hc1 hc2 hc3 hc4 x0 x1 x2 x3 x4).2.1 S1024x128.size (by sl_kernel_rfl) y

/-- What case B leaves in scratch `arg8`: its pieces read back over junk. -/
def sout3_B_0 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : ¬cond3_4 i)
    (x0 : Vec F S1024x384 .bf16) (x1 : Vec F S1024x512 .bf16) (x2 : Vec F S1024x64 .bf16) (x3 : Vec F S1024x64 .f32) (x4 : Vec F S1024x64 .f32) : Vec F S1024x256 .f32 :=
  VS3_0.read (Elt F) (VS3_0.writes (Elt F) VS3_0.junk (kernelRun3_B c i arg2 harg2 arg3 harg3 arg4 harg4 arg5 harg5 arg6 harg6 arg7 harg7 arg8 harg8 arg9 harg9 hc0 hc1 hc2 hc3 hc4 x0 x1 x2 x3 x4).2.1)

/-- Case B's pieces for scratch `arg9`, which the kernel carries between points, cover it: 2 pieces of `S1024x1` tiling it (Lib/Ring.lean `Piece.tiledL`). -/
theorem scover3_B_1 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : ¬cond3_4 i)
    (x0 : Vec F S1024x384 .bf16) (x1 : Vec F S1024x512 .bf16) (x2 : Vec F S1024x64 .bf16) (x3 : Vec F S1024x64 .f32) (x4 : Vec F S1024x64 .f32) (y : S1024x2.Idx) :
    ∃ pc ∈ (kernelRun3_B c i arg2 harg2 arg3 harg3 arg4 harg4 arg5 harg5 arg6 harg6 arg7 harg7 arg8 harg8 arg9 harg9 hc0 hc1 hc2 hc3 hc4 x0 x1 x2 x3 x4).2.2.1, y ∈ pc.1.set :=
  View.cover_of_tiledL (kernelRun3_B c i arg2 harg2 arg3 harg3 arg4 harg4 arg5 harg5 arg6 harg6 arg7 harg7 arg8 harg8 arg9 harg9 hc0 hc1 hc2 hc3 hc4 x0 x1 x2 x3 x4).2.2.1 S1024x1.size (by sl_kernel_rfl) y

/-- What case B leaves in scratch `arg9`: its pieces read back over junk. -/
def sout3_B_1 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : cond3_0 i) (hc1 : ¬cond3_1 i) (hc2 : cond3_2 i) (hc3 : ¬cond3_3 i) (hc4 : ¬cond3_4 i)
    (x0 : Vec F S1024x384 .bf16) (x1 : Vec F S1024x512 .bf16) (x2 : Vec F S1024x64 .bf16) (x3 : Vec F S1024x64 .f32) (x4 : Vec F S1024x64 .f32) : Vec F S1024x2 .f32 :=
  VS3_1.read (Elt F) (VS3_1.writes (Elt F) VS3_1.junk (kernelRun3_B c i arg2 harg2 arg3 harg3 arg4 harg4 arg5 harg5 arg6 harg6 arg7 harg7 arg8 harg8 arg9 harg9 hc0 hc1 hc2 hc3 hc4 x0 x1 x2 x3 x4).2.2.1)

/-- Case C's pieces for output 5 tile its block (2 stores of `S1024x128`, checked by the kernel's evaluation: Lib/Ring.lean `Piece.tiledL`, linear in the pieces, through a loop's `@[irreducible]` trip theorem too), so they cover it. -/
theorem cover3_C_5 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : ¬cond3_0 i) (hc1 : cond3_1 i) (hc2 : ¬cond3_2 i) (hc3 : cond3_3 i) (hc4 : cond3_4 i)
    (x0 : Vec F S1024x384 .bf16) (x1 : Vec F S1024x512 .bf16) (x2 : Vec F S1024x64 .bf16) (x3 : Vec F S1024x64 .f32) (x4 : Vec F S1024x64 .f32) (xs0 : Vec F S1024x256 .f32) (xs1 : Vec F S1024x2 .f32) (y : S1024x256.Idx) :
    ∃ pc ∈ (kernelRun3_C c i arg2 harg2 arg3 harg3 arg4 harg4 arg5 harg5 arg6 harg6 arg7 harg7 arg8 harg8 arg9 harg9 hc0 hc1 hc2 hc3 hc4 x0 x1 x2 x3 x4 xs0 xs1).1, y ∈ pc.1.set :=
  View.cover_of_tiledL (kernelRun3_C c i arg2 harg2 arg3 harg3 arg4 harg4 arg5 harg5 arg6 harg6 arg7 harg7 arg8 harg8 arg9 harg9 hc0 hc1 hc2 hc3 hc4 x0 x1 x2 x3 x4 xs0 xs1).1 S1024x128.size (by sl_kernel_rfl) y

/-- What case C leaves in output 5's staging buffer: its pieces read back over junk. -/
def out3_C_5 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : ¬cond3_0 i) (hc1 : cond3_1 i) (hc2 : ¬cond3_2 i) (hc3 : cond3_3 i) (hc4 : cond3_4 i)
    (x0 : Vec F S1024x384 .bf16) (x1 : Vec F S1024x512 .bf16) (x2 : Vec F S1024x64 .bf16) (x3 : Vec F S1024x64 .f32) (x4 : Vec F S1024x64 .f32) (xs0 : Vec F S1024x256 .f32) (xs1 : Vec F S1024x2 .f32) : Vec F S1024x256 .bf16 :=
  VO3_5.read (Elt F) (VO3_5.writes (Elt F) VO3_5.junk (kernelRun3_C c i arg2 harg2 arg3 harg3 arg4 harg4 arg5 harg5 arg6 harg6 arg7 harg7 arg8 harg8 arg9 harg9 hc0 hc1 hc2 hc3 hc4 x0 x1 x2 x3 x4 xs0 xs1).1)

/-- Case C's pieces for scratch `arg8`, which the kernel carries between points, cover it: 2 pieces of `S1024x128` tiling it (Lib/Ring.lean `Piece.tiledL`). -/
theorem scover3_C_0 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : ¬cond3_0 i) (hc1 : cond3_1 i) (hc2 : ¬cond3_2 i) (hc3 : cond3_3 i) (hc4 : cond3_4 i)
    (x0 : Vec F S1024x384 .bf16) (x1 : Vec F S1024x512 .bf16) (x2 : Vec F S1024x64 .bf16) (x3 : Vec F S1024x64 .f32) (x4 : Vec F S1024x64 .f32) (xs0 : Vec F S1024x256 .f32) (xs1 : Vec F S1024x2 .f32) (y : S1024x256.Idx) :
    ∃ pc ∈ (kernelRun3_C c i arg2 harg2 arg3 harg3 arg4 harg4 arg5 harg5 arg6 harg6 arg7 harg7 arg8 harg8 arg9 harg9 hc0 hc1 hc2 hc3 hc4 x0 x1 x2 x3 x4 xs0 xs1).2.1, y ∈ pc.1.set :=
  View.cover_of_tiledL (kernelRun3_C c i arg2 harg2 arg3 harg3 arg4 harg4 arg5 harg5 arg6 harg6 arg7 harg7 arg8 harg8 arg9 harg9 hc0 hc1 hc2 hc3 hc4 x0 x1 x2 x3 x4 xs0 xs1).2.1 S1024x128.size (by sl_kernel_rfl) y

/-- What case C leaves in scratch `arg8`: its pieces read back over junk. -/
def sout3_C_0 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : ¬cond3_0 i) (hc1 : cond3_1 i) (hc2 : ¬cond3_2 i) (hc3 : cond3_3 i) (hc4 : cond3_4 i)
    (x0 : Vec F S1024x384 .bf16) (x1 : Vec F S1024x512 .bf16) (x2 : Vec F S1024x64 .bf16) (x3 : Vec F S1024x64 .f32) (x4 : Vec F S1024x64 .f32) (xs0 : Vec F S1024x256 .f32) (xs1 : Vec F S1024x2 .f32) : Vec F S1024x256 .f32 :=
  VS3_0.read (Elt F) (VS3_0.writes (Elt F) VS3_0.junk (kernelRun3_C c i arg2 harg2 arg3 harg3 arg4 harg4 arg5 harg5 arg6 harg6 arg7 harg7 arg8 harg8 arg9 harg9 hc0 hc1 hc2 hc3 hc4 x0 x1 x2 x3 x4 xs0 xs1).2.1)

/-- Case C's pieces for scratch `arg9`, which the kernel carries between points, cover it: 2 pieces of `S1024x1` tiling it (Lib/Ring.lean `Piece.tiledL`). -/
theorem scover3_C_1 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : ¬cond3_0 i) (hc1 : cond3_1 i) (hc2 : ¬cond3_2 i) (hc3 : cond3_3 i) (hc4 : cond3_4 i)
    (x0 : Vec F S1024x384 .bf16) (x1 : Vec F S1024x512 .bf16) (x2 : Vec F S1024x64 .bf16) (x3 : Vec F S1024x64 .f32) (x4 : Vec F S1024x64 .f32) (xs0 : Vec F S1024x256 .f32) (xs1 : Vec F S1024x2 .f32) (y : S1024x2.Idx) :
    ∃ pc ∈ (kernelRun3_C c i arg2 harg2 arg3 harg3 arg4 harg4 arg5 harg5 arg6 harg6 arg7 harg7 arg8 harg8 arg9 harg9 hc0 hc1 hc2 hc3 hc4 x0 x1 x2 x3 x4 xs0 xs1).2.2.1, y ∈ pc.1.set :=
  View.cover_of_tiledL (kernelRun3_C c i arg2 harg2 arg3 harg3 arg4 harg4 arg5 harg5 arg6 harg6 arg7 harg7 arg8 harg8 arg9 harg9 hc0 hc1 hc2 hc3 hc4 x0 x1 x2 x3 x4 xs0 xs1).2.2.1 S1024x1.size (by sl_kernel_rfl) y

/-- What case C leaves in scratch `arg9`: its pieces read back over junk. -/
def sout3_C_1 (c : Dev nD) (i : grid3.Coords) (arg2 : Memref sig .tc .vmem S1024x384 .bf16) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x256 .bf16) (harg7 : arg7.IsWhole) (arg8 : Memref sig .tc .vmem S1024x256 .f32) (harg8 : arg8.IsWhole) (arg9 : Memref sig .tc .vmem S1024x2 .f32) (harg9 : arg9.IsWhole) (hc0 : ¬cond3_0 i) (hc1 : cond3_1 i) (hc2 : ¬cond3_2 i) (hc3 : cond3_3 i) (hc4 : cond3_4 i)
    (x0 : Vec F S1024x384 .bf16) (x1 : Vec F S1024x512 .bf16) (x2 : Vec F S1024x64 .bf16) (x3 : Vec F S1024x64 .f32) (x4 : Vec F S1024x64 .f32) (xs0 : Vec F S1024x256 .f32) (xs1 : Vec F S1024x2 .f32) : Vec F S1024x2 .f32 :=
  VS3_1.read (Elt F) (VS3_1.writes (Elt F) VS3_1.junk (kernelRun3_C c i arg2 harg2 arg3 harg3 arg4 harg4 arg5 harg5 arg6 harg6 arg7 harg7 arg8 harg8 arg9 harg9 hc0 hc1 hc2 hc3 hc4 x0 x1 x2 x3 x4 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before3_W_κ`). An assignment of the conditions no point meets is no case (`False.elim`). -/
def outsAt3 (c : Dev nD) : (n : ℕ) → n < cfg3.N → Vec F S1024x256 .bf16 × Vec F S1024x256 .f32 × Vec F S1024x2 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3_0 ⟨0, hn⟩).mpr (by (try dsimp only) <;> omega)) (fun h => (fun h => by (try dsimp only at h); omega) ((hcond3_1 ⟨0, hn⟩).mp h)) ((hcond3_2 ⟨0, hn⟩).mpr (by (try dsimp only) <;> omega)) (fun h => (fun h => by (try dsimp only at h); omega) ((hcond3_3 ⟨0, hn⟩).mp h)) ((hcond3_4 ⟨0, hn⟩).mpr (by (try dsimp only) <;> omega)) (iblk3 V c 0 ⟨0, hn⟩) (iblk3 V c 1 ⟨0, hn⟩) (iblk3 V c 2 ⟨0, hn⟩) (iblk3 V c 3 ⟨0, hn⟩) (iblk3 V c 4 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3_0 ⟨0, hn⟩).mpr (by (try dsimp only) <;> omega)) (fun h => (fun h => by (try dsimp only at h); omega) ((hcond3_1 ⟨0, hn⟩).mp h)) ((hcond3_2 ⟨0, hn⟩).mpr (by (try dsimp only) <;> omega)) (fun h => (fun h => by (try dsimp only at h); omega) ((hcond3_3 ⟨0, hn⟩).mp h)) ((hcond3_4 ⟨0, hn⟩).mpr (by (try dsimp only) <;> omega)) (iblk3 V c 0 ⟨0, hn⟩) (iblk3 V c 1 ⟨0, hn⟩) (iblk3 V c 2 ⟨0, hn⟩) (iblk3 V c 3 ⟨0, hn⟩) (iblk3 V c 4 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3_0 ⟨0, hn⟩).mpr (by (try dsimp only) <;> omega)) (fun h => (fun h => by (try dsimp only at h); omega) ((hcond3_1 ⟨0, hn⟩).mp h)) ((hcond3_2 ⟨0, hn⟩).mpr (by (try dsimp only) <;> omega)) (fun h => (fun h => by (try dsimp only at h); omega) ((hcond3_3 ⟨0, hn⟩).mp h)) ((hcond3_4 ⟨0, hn⟩).mpr (by (try dsimp only) <;> omega)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h0 : (n + 1) % 3 ≤ 1 then
      if h1 : (n + 1) % 3 = 2 then
        False.elim (by have hN : n + 1 < 48 := lt_of_lt_of_eq hn (show cfg3.N = 48 from N_3); omega)
      else
        if h2 : (n + 1) % 3 ≤ 1 then
          if h3 : (n + 1) % 3 = 2 then
            False.elim (by have hN : n + 1 < 48 := lt_of_lt_of_eq hn (show cfg3.N = 48 from N_3); omega)
          else
            if h4 : (n + 1) % 3 ≠ 1 then
              (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) ((hcond3_0 ⟨n + 1, hn⟩).mpr h0) (fun h => h1 ((hcond3_1 ⟨n + 1, hn⟩).mp h)) ((hcond3_2 ⟨n + 1, hn⟩).mpr h2) (fun h => h3 ((hcond3_3 ⟨n + 1, hn⟩).mp h)) ((hcond3_4 ⟨n + 1, hn⟩).mpr h4) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) ((hcond3_0 ⟨n + 1, hn⟩).mpr h0) (fun h => h1 ((hcond3_1 ⟨n + 1, hn⟩).mp h)) ((hcond3_2 ⟨n + 1, hn⟩).mpr h2) (fun h => h3 ((hcond3_3 ⟨n + 1, hn⟩).mp h)) ((hcond3_4 ⟨n + 1, hn⟩).mpr h4) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) ((hcond3_0 ⟨n + 1, hn⟩).mpr h0) (fun h => h1 ((hcond3_1 ⟨n + 1, hn⟩).mp h)) ((hcond3_2 ⟨n + 1, hn⟩).mpr h2) (fun h => h3 ((hcond3_3 ⟨n + 1, hn⟩).mp h)) ((hcond3_4 ⟨n + 1, hn⟩).mpr h4) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
            else
              (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) ((hcond3_0 ⟨n + 1, hn⟩).mpr h0) (fun h => h1 ((hcond3_1 ⟨n + 1, hn⟩).mp h)) ((hcond3_2 ⟨n + 1, hn⟩).mpr h2) (fun h => h3 ((hcond3_3 ⟨n + 1, hn⟩).mp h)) (fun h => h4 ((hcond3_4 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) ((hcond3_0 ⟨n + 1, hn⟩).mpr h0) (fun h => h1 ((hcond3_1 ⟨n + 1, hn⟩).mp h)) ((hcond3_2 ⟨n + 1, hn⟩).mpr h2) (fun h => h3 ((hcond3_3 ⟨n + 1, hn⟩).mp h)) (fun h => h4 ((hcond3_4 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) ((hcond3_0 ⟨n + 1, hn⟩).mpr h0) (fun h => h1 ((hcond3_1 ⟨n + 1, hn⟩).mp h)) ((hcond3_2 ⟨n + 1, hn⟩).mpr h2) (fun h => h3 ((hcond3_3 ⟨n + 1, hn⟩).mp h)) (fun h => h4 ((hcond3_4 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
        else
          False.elim (by have hN : n + 1 < 48 := lt_of_lt_of_eq hn (show cfg3.N = 48 from N_3); omega)
    else
      if h1 : (n + 1) % 3 = 2 then
        if h2 : (n + 1) % 3 ≤ 1 then
          False.elim (by have hN : n + 1 < 48 := lt_of_lt_of_eq hn (show cfg3.N = 48 from N_3); omega)
        else
          if h3 : (n + 1) % 3 = 2 then
            if h4 : (n + 1) % 3 ≠ 1 then
              (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => h0 ((hcond3_0 ⟨n + 1, hn⟩).mp h)) ((hcond3_1 ⟨n + 1, hn⟩).mpr h1) (fun h => h2 ((hcond3_2 ⟨n + 1, hn⟩).mp h)) ((hcond3_3 ⟨n + 1, hn⟩).mpr h3) ((hcond3_4 ⟨n + 1, hn⟩).mpr h4) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.1 (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => h0 ((hcond3_0 ⟨n + 1, hn⟩).mp h)) ((hcond3_1 ⟨n + 1, hn⟩).mpr h1) (fun h => h2 ((hcond3_2 ⟨n + 1, hn⟩).mp h)) ((hcond3_3 ⟨n + 1, hn⟩).mpr h3) ((hcond3_4 ⟨n + 1, hn⟩).mpr h4) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.1 (outsAt3 c n (Nat.lt_of_succ_lt hn)).2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => h0 ((hcond3_0 ⟨n + 1, hn⟩).mp h)) ((hcond3_1 ⟨n + 1, hn⟩).mpr h1) (fun h => h2 ((hcond3_2 ⟨n + 1, hn⟩).mp h)) ((hcond3_3 ⟨n + 1, hn⟩).mpr h3) ((hcond3_4 ⟨n + 1, hn⟩).mpr h4) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.1 (outsAt3 c n (Nat.lt_of_succ_lt hn)).2.2)
            else
              False.elim (by have hN : n + 1 < 48 := lt_of_lt_of_eq hn (show cfg3.N = 48 from N_3); omega)
          else
            False.elim (by have hN : n + 1 < 48 := lt_of_lt_of_eq hn (show cfg3.N = 48 from N_3); omega)
      else
        False.elim (by have hN : n + 1 < 48 := lt_of_lt_of_eq hn (show cfg3.N = 48 from N_3); omega)

/-- `outsAt3` at a point of case A: that case's contents. -/
theorem outsAt3_A (c : Dev nD) (t : Fin cfg3.N) (h0 : t.val % 3 ≤ 1) (h1 : ¬t.val % 3 = 2) (h2 : t.val % 3 ≤ 1) (h3 : ¬t.val % 3 = 2) (h4 : t.val % 3 ≠ 1) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3_0 t).mpr h0) (fun h => h1 ((hcond3_1 t).mp h)) ((hcond3_2 t).mpr h2) (fun h => h3 ((hcond3_3 t).mp h)) ((hcond3_4 t).mpr h4) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3_0 t).mpr h0) (fun h => h1 ((hcond3_1 t).mp h)) ((hcond3_2 t).mpr h2) (fun h => h3 ((hcond3_3 t).mp h)) ((hcond3_4 t).mpr h4) (iblk3 V c 0 t) (iblk3 V c 1 t) (iblk3 V c 2 t) (iblk3 V c 3 t) (iblk3 V c 4 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3_0 t).mpr h0) (fun h => h1 ((hcond3_1 t).mp h)) ((hcond3_2 t).mpr h2) (fun h => h3 ((hcond3_3 t).mp h)) ((hcond3_4 t).mpr h4) (iblk3 V c 0 t) (iblk3 V c 1 t) (iblk3 V c 2 t) (iblk3 V c 3 t) (iblk3 V c 4 t)) := by
  obtain ⟨n, hn⟩ := t
  cases n with
  | zero => exact rfl
  | succ n => exact (dif_pos h0).trans ((dif_neg h1).trans ((dif_pos h2).trans ((dif_neg h3).trans ((dif_pos h4).trans rfl))))

/-- `outsAt3` at a point of case B: that case's contents. -/
theorem outsAt3_B (c : Dev nD) (t : Fin cfg3.N) (h0 : t.val % 3 ≤ 1) (h1 : ¬t.val % 3 = 2) (h2 : t.val % 3 ≤ 1) (h3 : ¬t.val % 3 = 2) (h4 : ¬t.val % 3 ≠ 1) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3_0 t).mpr h0) (fun h => h1 ((hcond3_1 t).mp h)) ((hcond3_2 t).mpr h2) (fun h => h3 ((hcond3_3 t).mp h)) (fun h => h4 ((hcond3_4 t).mp h)) (iblk3 V c 0 t) (iblk3 V c 1 t) (iblk3 V c 2 t) (iblk3 V c 3 t) (iblk3 V c 4 t), sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3_0 t).mpr h0) (fun h => h1 ((hcond3_1 t).mp h)) ((hcond3_2 t).mpr h2) (fun h => h3 ((hcond3_3 t).mp h)) (fun h => h4 ((hcond3_4 t).mp h)) (iblk3 V c 0 t) (iblk3 V c 1 t) (iblk3 V c 2 t) (iblk3 V c 3 t) (iblk3 V c 4 t), sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3_0 t).mpr h0) (fun h => h1 ((hcond3_1 t).mp h)) ((hcond3_2 t).mpr h2) (fun h => h3 ((hcond3_3 t).mp h)) (fun h => h4 ((hcond3_4 t).mp h)) (iblk3 V c 0 t) (iblk3 V c 1 t) (iblk3 V c 2 t) (iblk3 V c 3 t) (iblk3 V c 4 t)) := by
  obtain ⟨n, hn⟩ := t
  cases n with
  | zero => exact (by exfalso; (try dsimp only at h4); exact by omega)
  | succ n => exact (dif_pos h0).trans ((dif_neg h1).trans ((dif_pos h2).trans ((dif_neg h3).trans ((dif_neg h4).trans rfl))))

/-- `outsAt3` at a point of case C: that case's contents, over what the point before left. -/
theorem outsAt3_C (c : Dev nD) (t : Fin cfg3.N) (h0 : ¬t.val % 3 ≤ 1) (h1 : t.val % 3 = 2) (h2 : ¬t.val % 3 ≤ 1) (h3 : t.val % 3 = 2) (h4 : t.val % 3 ≠ 1) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) ((hcond3_1 t).mpr h1) (fun h => h2 ((hcond3_2 t).mp h)) ((hcond3_3 t).mpr h3) ((hcond3_4 t).mpr h4) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) ((hcond3_1 t).mpr h1) (fun h => h2 ((hcond3_2 t).mp h)) ((hcond3_3 t).mpr h3) ((hcond3_4 t).mpr h4) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) ((hcond3_1 t).mpr h1) (fun h => h2 ((hcond3_2 t).mp h)) ((hcond3_3 t).mpr h3) ((hcond3_4 t).mpr h4) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact by omega)
  | succ n => exact (dif_neg h0).trans ((dif_pos h1).trans ((dif_neg h2).trans ((dif_pos h3).trans ((dif_pos h4).trans rfl))))

/-- The region invariant before position `n` with a scratch the kernel CARRIES between points: before the first point the
    class's (Lib/Pipeline/Frame.lean `ΦA`: every scratch at anything); afterwards the scoped rest with each carried scratch
    at what the point before left in it (`outsAt3`'s scratch components), the others at anything, and the generator register
    at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.1) ∗ owns (c : Thread nD τ) scM3_1 fullShare ((outsAt3 V c n hn).2.2)) ∗ restG3 (F := F) c)

/-- What holds before the first point of the attention call. -/
theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop(owns (c : Thread nD τ) scM3_0 fullShare ((outsAt3 V c n hn).2.1) ∗ owns (c : Thread nD τ) scM3_1 fullShare ((outsAt3 V c n hn).2.2)) ∗ restG3 (F := F) c) := rfl

/-- Before a point that is not the first: the carried scratch at what the point before left. -/
theorem PhiS3_pos (c : Dev nD) (n : ℕ) (h : n ≤ cfg3.N) (hz : n ≠ 0) :
    PhiS3 V c n h = iprop(iprop(owns (c : Thread nD τ) scM3_0 fullShare ((outsAt3 V c (n - 1) (by omega)).2.1) ∗ owns (c : Thread nD τ) scM3_1 fullShare ((outsAt3 V c (n - 1) (by omega)).2.2)) ∗ restG3 (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt3`; the invariant the class's
    (`PhiS3`: the class's `ΦA` before the first point, then the scoped rest with the carried scratch at `outsAt3`'s component);
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; exact Pipeline.Dat.Φ_castSucc (PhiS3 V c) t

/-- What the body leaves, window by window (the proof data's `match` reduced by `dsimp`). -/
theorem after3_0 (c : Dev nD) (t : Fin cfg3.N) : (dat3 V c).after 0 t = iblk3 V c 0 t := by dsimp only [dat3]
/-- Call 3, window 1: what its buffer holds after a point's body. -/
theorem after3_1 (c : Dev nD) (t : Fin cfg3.N) : (dat3 V c).after 1 t = iblk3 V c 1 t := by dsimp only [dat3]
/-- Call 3, window 2: what its buffer holds after a point's body. -/
theorem after3_2 (c : Dev nD) (t : Fin cfg3.N) : (dat3 V c).after 2 t = iblk3 V c 2 t := by dsimp only [dat3]
/-- Call 3, window 3: what its buffer holds after a point's body. -/
theorem after3_3 (c : Dev nD) (t : Fin cfg3.N) : (dat3 V c).after 3 t = iblk3 V c 3 t := by dsimp only [dat3]
/-- Call 3, window 4: what its buffer holds after a point's body. -/
theorem after3_4 (c : Dev nD) (t : Fin cfg3.N) : (dat3 V c).after 4 t = iblk3 V c 4 t := by dsimp only [dat3]
/-- Call 3, window 5: what its buffer holds after a point's body. -/
theorem after3_5 (c : Dev nD) (t : Fin cfg3.N) : (dat3 V c).after 5 t = (outsAt3 V c t.val t.isLt).1 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
/-- Call 3, window 1: what its buffer holds before a point's body. -/
theorem before3_1 (c : Dev nD) (t : Fin cfg3.N) (d) : (dat3 V c).before 1 t d = iblk3 V c 1 t :=
  before3_1_of V (dat3 V c) (A_eq3 V c 1) (after3_1 V c) t d
/-- Call 3, window 2: what its buffer holds before a point's body. -/
theorem before3_2 (c : Dev nD) (t : Fin cfg3.N) (d) : (dat3 V c).before 2 t d = iblk3 V c 2 t :=
  before3_2_of V (dat3 V c) (A_eq3 V c 2) (after3_2 V c) t d
/-- Call 3, window 3: what its buffer holds before a point's body. -/
theorem before3_3 (c : Dev nD) (t : Fin cfg3.N) (d) : (dat3 V c).before 3 t d = iblk3 V c 3 t :=
  before3_3_of V (dat3 V c) (A_eq3 V c 3) (after3_3 V c) t d
/-- Call 3, window 4: what its buffer holds before a point's body. -/
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 9600000 in
/-- The body at any point: the inputs' memrefs hold their blocks (`before3_W`); the closed forms say which case the point is in (`by_cases`), an output the case reads before covering holds what the point before left (`before3_W_κ`); so the
    run applies; the invariant hands the body the carried scratch at what the point before left (`PhiS3_pos`; at anything at the first point, `PhiS3_zero`), the other scratch buffers and the generator register at some state, and takes the carried scratch back at this point's contents (`PhiS3_succ`, by `scoverK_κ_N`); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 48 := lt_of_lt_of_eq t.isLt (show cfg3.N = 48 from N_3)
  by_cases h0 : t.val % 3 ≤ 1
  · by_cases h1 : t.val % 3 = 2
    · exfalso; omega
    · by_cases h2 : t.val % 3 ≤ 1
      · by_cases h3 : t.val % 3 = 2
        · exfalso; omega
        · by_cases h4 : t.val % 3 ≠ 1
          · rw [show (dat3 V c).leavesExact 0 t = owns (c : Thread nD τ) (ms3_0 t) fullShare ((dat3 V c).after 0 t) from by
      unfold Dat.leavesExact; rw [liveAt3_0 t], after3_0]
            rw [show (dat3 V c).leavesExact 1 t = owns (c : Thread nD τ) (ms3_1 t) fullShare ((dat3 V c).after 1 t) from by
      unfold Dat.leavesExact; rw [liveAt3_1 t], after3_1]
            rw [show (dat3 V c).leavesExact 2 t = owns (c : Thread nD τ) (ms3_2 t) fullShare ((dat3 V c).after 2 t) from by
      unfold Dat.leavesExact; rw [liveAt3_2 t], after3_2]
            rw [show (dat3 V c).leavesExact 3 t = owns (c : Thread nD τ) (ms3_3 t) fullShare ((dat3 V c).after 3 t) from by
      unfold Dat.leavesExact; rw [liveAt3_3 t], after3_3]
            rw [show (dat3 V c).leavesExact 4 t = owns (c : Thread nD τ) (ms3_4 t) fullShare ((dat3 V c).after 4 t) from by
      unfold Dat.leavesExact; rw [liveAt3_4 t], after3_4]
            rw [show (dat3 V c).leavesExact 5 t = owns (c : Thread nD τ) (ms3_5 t) fullShare ((dat3 V c).after 5 t) from by
      unfold Dat.leavesExact; rw [liveAt3_5_A t ((hcond3_0 t).mpr h0) (fun h => h1 ((hcond3_1 t).mp h)) ((hcond3_2 t).mpr h2) (fun h => h3 ((hcond3_3 t).mp h)) ((hcond3_4 t).mpr h4)], after3_5]
            by_cases hz : t.val = 0
            · rw [PhiS3_castSucc V c t, PhiS3_zero V c _ _ hz, PhiA3_eq]
              rw [outsAt3_A V c t h0 h1 h2 h3 h4]
              unfold out3_A_5 sout3_A_0 sout3_A_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩⟩
              iapply ((kernelRun3_A c (grid3.coords t) _ _ _ _ _ _ _ _ _ _ _ _ _ _ _ _ ((hcond3_0 t).mpr h0) (fun h => h1 ((hcond3_1 t).mp h)) ((hcond3_2 t).mpr h2) (fun h => h3 ((hcond3_3 t).mp h)) ((hcond3_4 t).mpr h4) (iblk3 V c 0 t) (iblk3 V c 1 t) (iblk3 V c 2 t) (iblk3 V c 3 t) (iblk3 V c 4 t)).2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [HS0]; · iexact HS0
              isplitl [HS1]; · iexact HS1
              iintro ⟨H0, H1, H2, H3, H4, ⟨%e5, H5⟩, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover3_A_0 c _ _ _ _ _ _ _ _ _ _ _ _ _ _ _ _ _ _ _ _ _ _ _ _ _ _ _)
                  unfold owns; iexists _; isplitr
                  swap; · iexact HS1
                  ipureintro; exact View.read_writes_of_cover _ _ _ _ _ (scover3_A_1 c _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              unfold owns; iexists _; isplitr
              swap; · iexact H5
              ipureintro; exact View.read_writes_of_cover _ _ _ _ _ (cover3_A_5 c _ _ _ _ _ _ _ _ _ _ _ _ _ _ _ _ _ _ _ _ _ _ _ _ _ _ _)
            · rw [PhiS3_castSucc V c t, PhiS3_pos V c _ _ hz]
              rw [outsAt3_A V c t h0 h1 h2 h3 h4]
              unfold out3_A_5 sout3_A_0 sout3_A_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩⟩
              iapply ((kernelRun3_A c (grid3.coords t) _ _ _ _ _ _ _ _ _ _ _ _ _ _ _ _ ((hcond3_0 t).mpr h0) (fun h => h1 ((hcond3_1 t).mp h)) ((hcond3_2 t).mpr h2) (fun h => h3 ((hcond3_3 t).mp h)) ((hcond3_4 t).mpr h4) (iblk3 V c 0 t) (iblk3 V c 1 t) (iblk3 V c 2 t) (iblk3 V c 3 t) (iblk3 V c 4 t)).2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [HS0]; · iexists _; iexact HS0
              isplitl [HS1]; · iexists _; iexact HS1
              iintro ⟨H0, H1, H2, H3, H4, ⟨%e5, H5⟩, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover3_A_0 c _ _ _ _ _ _ _ _ _ _ _ _ _ _ _ _ _ _ _ _ _ _ _ _ _ _ _)
                  unfold owns; iexists _; isplitr
                  swap; · iexact HS1
                  ipureintro; exact View.read_writes_of_cover _ _ _ _ _ (scover3_A_1 c _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              unfold owns; iexists _; isplitr
              swap; · iexact H5
              ipureintro; exact View.read_writes_of_cover _ _ _ _ _ (cover3_A_5 c _ _ _ _ _ _ _ _ _ _ _ _ _ _ _ _ _ _ _ _ _ _ _ _ _ _ _)
          · rw [show (dat3 V c).leavesExact 0 t = owns (c : Thread nD τ) (ms3_0 t) fullShare ((dat3 V c).after 0 t) from by
      unfold Dat.leavesExact; rw [liveAt3_0 t], after3_0]
            rw [show (dat3 V c).leavesExact 1 t = owns (c : Thread nD τ) (ms3_1 t) fullShare ((dat3 V c).after 1 t) from by
      unfold Dat.leavesExact; rw [liveAt3_1 t], after3_1]
            rw [show (dat3 V c).leavesExact 2 t = owns (c : Thread nD τ) (ms3_2 t) fullShare ((dat3 V c).after 2 t) from by
      unfold Dat.leavesExact; rw [liveAt3_2 t], after3_2]
            rw [show (dat3 V c).leavesExact 3 t = owns (c : Thread nD τ) (ms3_3 t) fullShare ((dat3 V c).after 3 t) from by
      unfold Dat.leavesExact; rw [liveAt3_3 t], after3_3]
            rw [show (dat3 V c).leavesExact 4 t = owns (c : Thread nD τ) (ms3_4 t) fullShare ((dat3 V c).after 4 t) from by
      unfold Dat.leavesExact; rw [liveAt3_4 t], after3_4]
            rw [Dat.leavesExact_idle (dat3 V c) 5 t (idleAt3_5_B t ((hcond3_0 t).mpr h0) (fun h => h1 ((hcond3_1 t).mp h)) ((hcond3_2 t).mpr h2) (fun h => h3 ((hcond3_3 t).mp h)) (fun h => h4 ((hcond3_4 t).mp h))) (noFlush3_5_B t ((hcond3_0 t).mpr h0) (fun h => h1 ((hcond3_1 t).mp h)) ((hcond3_2 t).mpr h2) (fun h => h3 ((hcond3_3 t).mp h)) (fun h => h4 ((hcond3_4 t).mp h)))]
            by_cases hz : t.val = 0
            · exfalso; have hN : t.val < 48 := lt_of_lt_of_eq t.isLt (show cfg3.N = 48 from N_3); omega
            · rw [PhiS3_castSucc V c t, PhiS3_pos V c _ _ hz]
              rw [outsAt3_B V c t h0 h1 h2 h3 h4]
              unfold sout3_B_0 sout3_B_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩⟩
              iapply ((kernelRun3_B c (grid3.coords t) _ _ _ _ _ _ _ _ _ _ _ _ _ _ _ _ ((hcond3_0 t).mpr h0) (fun h => h1 ((hcond3_1 t).mp h)) ((hcond3_2 t).mpr h2) (fun h => h3 ((hcond3_3 t).mp h)) (fun h => h4 ((hcond3_4 t).mp h)) (iblk3 V c 0 t) (iblk3 V c 1 t) (iblk3 V c 2 t) (iblk3 V c 3 t) (iblk3 V c 4 t)).2.2.2 _ Set.univ _)
              isplitl [H0]; · iexact H0
              isplitl [H1]; · iexact H1
              isplitl [H2]; · iexact H2
              isplitl [H3]; · iexact H3
              isplitl [H4]; · iexact H4
              isplitl [H5]; · iexact H5
              isplitl [HS0]; · iexists _; iexact HS0
              isplitl [HS1]; · iexists _; iexact HS1
              iintro ⟨H0, H1, H2, H3, H4, H5, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover3_B_0 c _ _ _ _ _ _ _ _ _ _ _ _ _ _ _ _ _ _ _ _ _ _ _ _ _ _ _)
                  unfold owns; iexists _; isplitr
                  swap; · iexact HS1
                  ipureintro; exact View.read_writes_of_cover _ _ _ _ _ (scover3_B_1 c _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              iexists _; iexact H5
      · exfalso; omega
  · by_cases h1 : t.val % 3 = 2
    · by_cases h2 : t.val % 3 ≤ 1
      · exfalso; omega
      · by_cases h3 : t.val % 3 = 2
        · by_cases h4 : t.val % 3 ≠ 1
          · rw [show (dat3 V c).leavesExact 0 t = owns (c : Thread nD τ) (ms3_0 t) fullShare ((dat3 V c).after 0 t) from by
      unfold Dat.leavesExact; rw [liveAt3_0 t], after3_0]
            rw [show (dat3 V c).leavesExact 1 t = owns (c : Thread nD τ) (ms3_1 t) fullShare ((dat3 V c).after 1 t) from by
      unfold Dat.leavesExact; rw [liveAt3_1 t], after3_1]
            rw [show (dat3 V c).leavesExact 2 t = owns (c : Thread nD τ) (ms3_2 t) fullShare ((dat3 V c).after 2 t) from by
      unfold Dat.leavesExact; rw [liveAt3_2 t], after3_2]
            rw [show (dat3 V c).leavesExact 3 t = owns (c : Thread nD τ) (ms3_3 t) fullShare ((dat3 V c).after 3 t) from by
      unfold Dat.leavesExact; rw [liveAt3_3 t], after3_3]
            rw [show (dat3 V c).leavesExact 4 t = owns (c : Thread nD τ) (ms3_4 t) fullShare ((dat3 V c).after 4 t) from by
      unfold Dat.leavesExact; rw [liveAt3_4 t], after3_4]
            rw [show (dat3 V c).leavesExact 5 t = owns (c : Thread nD τ) (ms3_5 t) fullShare ((dat3 V c).after 5 t) from by
      unfold Dat.leavesExact; rw [liveAt3_5_C t (fun h => h0 ((hcond3_0 t).mp h)) ((hcond3_1 t).mpr h1) (fun h => h2 ((hcond3_2 t).mp h)) ((hcond3_3 t).mpr h3) ((hcond3_4 t).mpr h4)], after3_5]
            by_cases hz : t.val = 0
            · exfalso; have hN : t.val < 48 := lt_of_lt_of_eq t.isLt (show cfg3.N = 48 from N_3); omega
            · rw [PhiS3_castSucc V c t, PhiS3_pos V c _ _ hz]
              rw [outsAt3_C V c t h0 h1 h2 h3 h4]
              unfold out3_C_5 sout3_C_0 sout3_C_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩⟩
              iapply ((kernelRun3_C c (grid3.coords t) _ _ _ _ _ _ _ _ _ _ _ _ _ _ _ _ (fun h => h0 ((hcond3_0 t).mp h)) ((hcond3_1 t).mpr h1) (fun h => h2 ((hcond3_2 t).mp h)) ((hcond3_3 t).mpr h3) ((hcond3_4 t).mpr h4) (iblk3 V c 0 t) (iblk3 V c 1 t) (iblk3 V c 2 t) (iblk3 V c 3 t) (iblk3 V c 4 t) _ _).2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [HS0]; · iexact HS0
              isplitl [HS1]; · iexact HS1
              iintro ⟨H0, H1, H2, H3, H4, ⟨%e5, H5⟩, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover3_C_0 c _ _ _ _ _ _ _ _ _ _ _ _ _ _ _ _ _ _ _ _ _ _ _ _ _ _ _ _ _)
                  unfold owns; iexists _; isplitr
                  swap; · iexact HS1
                  ipureintro; exact View.read_writes_of_cover _ _ _ _ _ (scover3_C_1 c _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              unfold owns; iexists _; isplitr
              swap; · iexact H5
              ipureintro; exact View.read_writes_of_cover _ _ _ _ _ (cover3_C_5 c _ _ _ _ _ _ _ _ _ _ _ _ _ _ _ _ _ _ _ _ _ _ _ _ _ _ _ _ _)
          · exfalso; omega
        · exfalso; omega
    · exfalso; omega

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- What the launch hands the region (`ΦA`) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives `ΦA` back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HS1⟩, Hg⟩
  isplitl [HS0 HS1]
  · isplitl [HS0]
    · iexists _; iexact HS0
    iexists _; iexact HS1
  iexact Hg

/-- The same after the last point. -/
theorem hout3 (c : Dev nD) : (dat3 V c).Φ (Fin.last cfg3.N) ⊢ Pipeline.ΦA spec3 c :=
  Phi_out3 V c _ (by rw [Fin.val_last]; have : cfg3.N = 48 := N_3; omega)

end Cert.KernelIdeal.Gen

end
-- ==== Proof.RunI.Main.lean ====
/- The run of @main: the buffer contents at every boundary between its calls and host stretches, and the frame. -/
module

public import proofs.«01_k».proof.Proof.RunI.Calls
public import proofs.«01_k».proof.Proof.RunI.AttnDat

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_cst, main_v2, main_v3, main_cst_0, main_v4, main_v5, main_cst_1, main_v6, main_v7, main_cst_2, main_v8, main_v9, main_cst_3, main_v10, main_v11, main_v12, main_v13, main_v14, main_v15, main_v16, main_v17, main_v18, main_v19, main_v20, main_v21, main_v22, main_v23, main_v24, main_v25, main_v26, main_v27]
/-- The buffers that these host lines write. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v32]
/-- The buffers that these host lines write. -/
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- Stage 0: the arguments are as launched. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Stage 1: the arguments are as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- Stage 2: a call's array holds what the pipeline leaves of it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Stage 2: a buffer that is none of the call's arrays is as before the call. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- Stage 2: the arguments are as launched. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Call 0: the buffers that are none of its arrays are as before it. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
/-- Stage 3: a call's array holds what the pipeline leaves of it. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- Stage 3: a buffer that is none of the call's arrays is as before the call. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- Stage 3: the arguments are as launched. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- Call 1: the buffers that are none of its arrays are as before it. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W4 (c : Dev nD) : Valuation τ sig (Elt F) :=
  Pipeline.withArrays spec2 c (W3 m ρ c) fun w => (dat2 (V3 m ρ) c).arrAt w cfg2.N
/-- Stage 4: a call's array holds what the pipeline leaves of it. -/
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
/-- Stage 4: a buffer that is none of the call's arrays is as before the call. -/
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- Stage 4: the arguments are as launched. -/
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
/-- Call 2: the buffers that are none of its arrays are as before it. -/
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec3 c (W4 m ρ c) fun w => (dat3 (V4 m ρ) c).arrAt w cfg3.N
/-- Stage 5: a call's array holds what the pipeline leaves of it. -/
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
/-- Stage 5: a buffer that is none of the call's arrays is as before the call. -/
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
/-- Stage 5: the arguments are as launched. -/
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
/-- Call 3: the buffers that are none of its arrays are as before it. -/
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After `hostOps4` (region 4's entry). -/
abbrev W6 : Dev nD → Valuation τ sig (Elt F) := fun c => StableHlo.after hostOps4 (W5 m ρ c)
/-- A reference `hostOps4` does not write keeps its contents across it. -/
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
/-- Stage 6: the arguments are as launched. -/
theorem W6_args (c : Dev nD) : ∀ a ∈ argRefs, W6 m ρ c (Proc.devRef .tc a) = m ((c : Thread nD τ).loc a) :=
  fun a ha => (W6_of m ρ c a (hostOps4_args a ha)).trans (W5_args m ρ c a ha)
/-- The same read at the TensorCore's references (what region 4's proof data take). -/
abbrev V6 : (c : Dev nD) → (b : Ref sig .tc) → Buf (Elt F) ((c : Thread nD τ).loc b) := fun c b => W6 m ρ c b
/-- At region 4's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec4 c (W6 m ρ c) fun w => (dat4 (V6 m ρ) c).arrAt w cfg4.N
/-- Stage 7: a call's array holds what the pipeline leaves of it. -/
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
/-- Stage 7: a buffer that is none of the call's arrays is as before the call. -/
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- A reference that is none of region 4's OUTPUT arrays keeps its entry contents across it: an input window's
    array is never written back (`Dat.arrAt_in`, `A_eq4`); any other buffer is left as is. -/
theorem W7_of (c : Dev nD) (r : Ref sig .tc) (h : ∀ w : Fin cfg4.W, Pipeline.arrRef spec4 w = r → (cfg4.win w).isOut = false) :
    W7 m ρ c (Proc.devRef .tc r) = W6 m ρ c (Proc.devRef .tc r) := by
  by_cases hw : ∃ w : Fin cfg4.W, Pipeline.arrRef spec4 w = r
  · obtain ⟨w, rfl⟩ := hw
    exact (W7_arr m ρ c w).trans (((dat4 (V6 m ρ) c).arrAt_in w (h w rfl) _).trans (A_eq4 (V6 m ρ) c w))
  · exact W7_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
/-- Stage 7: the arguments are as launched. -/
theorem W7_args (c : Dev nD) : ∀ a ∈ argRefs, W7 m ρ c (Proc.devRef .tc a) = m ((c : Thread nD τ).loc a) :=
  fun a ha => (W7_of m ρ c a (argsIn4 a ha)).trans (W6_args m ρ c a ha)
/-- The same read at the TensorCore's references (region 4's exit contents). -/
abbrev V7 : (c : Dev nD) → (b : Ref sig .tc) → Buf (Elt F) ((c : Thread nD τ).loc b) := fun c b => W7 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V6 m ρ) c).arrAt w cfg4.N = V7 m ρ c (Pipeline.arrRef spec4 w) :=
  (W7_arr m ρ c w).symm
/-- Call 4: the buffers that are none of its arrays are as before it. -/
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-! ### The arguments end as launched: no host stretch writes one and no region may change one (a region reads it
    through an input window or bypasses it) -/

/-- At the end argument 0 is as launched. -/
theorem W7_main_arg0 (c : Dev nD) : W7 m ρ c (Proc.devRef .tc main_arg0) = m ((c : Thread nD τ).loc main_arg0) :=
  W7_args m ρ c main_arg0 (by decide)
/-- At the end argument 1 is as launched. -/
theorem W7_main_arg1 (c : Dev nD) : W7 m ρ c (Proc.devRef .tc main_arg1) = m ((c : Thread nD τ).loc main_arg1) :=
  W7_args m ρ c main_arg1 (by decide)
/-- At the end argument 2 is as launched. -/
theorem W7_main_arg2 (c : Dev nD) : W7 m ρ c (Proc.devRef .tc main_arg2) = m ((c : Thread nD τ).loc main_arg2) :=
  W7_args m ρ c main_arg2 (by decide)
/-- At the end argument 3 is as launched. -/
theorem W7_main_arg3 (c : Dev nD) : W7 m ρ c (Proc.devRef .tc main_arg3) = m ((c : Thread nD τ).loc main_arg3) :=
  W7_args m ρ c main_arg3 (by decide)
/-- At the end argument 4 is as launched. -/
theorem W7_main_arg4 (c : Dev nD) : W7 m ρ c (Proc.devRef .tc main_arg4) = m ((c : Thread nD τ).loc main_arg4) :=
  W7_args m ρ c main_arg4 (by decide)
/-- At the end argument 5 is as launched. -/
theorem W7_main_arg5 (c : Dev nD) : W7 m ρ c (Proc.devRef .tc main_arg5) = m ((c : Thread nD τ).loc main_arg5) :=
  W7_args m ρ c main_arg5 (by decide)
/-- At the end argument 6 is as launched. -/
theorem W7_main_arg6 (c : Dev nD) : W7 m ρ c (Proc.devRef .tc main_arg6) = m ((c : Thread nD τ).loc main_arg6) :=
  W7_args m ρ c main_arg6 (by decide)
/-- At the end argument 7 is as launched. -/
theorem W7_main_arg7 (c : Dev nD) : W7 m ρ c (Proc.devRef .tc main_arg7) = m ((c : Thread nD τ).loc main_arg7) :=
  W7_args m ρ c main_arg7 (by decide)
/-- At the end argument 8 is as launched. -/
theorem W7_main_arg8 (c : Dev nD) : W7 m ρ c (Proc.devRef .tc main_arg8) = m ((c : Thread nD τ).loc main_arg8) :=
  W7_args m ρ c main_arg8 (by decide)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (?_ : (_ : sProp 𝕄) ⊢ _) (hin3 (V4 m ρ) c); unfold Pipeline.ΦA
    iintro ⟨Hp, -, Hr⟩
    isplitl [Hr]; · iexact Hr
    iexact Hp
  hout c := by
    refine BI.Entails.trans (hout3 (V4 m ρ) c) (?_ : (_ : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state: entered from every unscoped buffer at `W6`, left at `W7`
    (what the launch reads at the end). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) (A_eq4 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .host (hseg hostOps4 hostOps4_sub hostOps4_fresh (W5 m ρ)),
    .region (reg4 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: at the compiled mesh, from any memory with zero counters, every weakly fair execution of @main terminates,
    nothing faulting, and every final state has every unscoped buffer at the last boundary's contents `W7` and every
    semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- THE FRAME: every weakly fair execution of @main terminates, nothing faulting, and every final state has the argument
    arrays as launched and every semaphore counter of the machine at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r hr => ⟨fun c =>
      have h := hr.1
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩, hr.2⟩) (run_all m ρ)

/-- Every final state has the result buffer at what the last pipeline leaves of its output array. -/
theorem run_result : θ_run defs (onTc (τ := τ) (main (F := F))) ⟨m, fun _ => 0, ρ⟩ (fun r =>
      (∀ c : Dev nD, r.2.mem ((c.tc : Thread nD τ).loc main_v33) = (dat4 (V6 m ρ) c).arrAt 2 cfg4.N)
      ∧ r.2.sem = fun _ => 0) :=
  (θ_run defs _ _).mono (fun _ hr => ⟨fun c => (hr.1 c _ (mem_uc main_v33 (by decide))).trans (W7_arr m ρ c 2), hr.2⟩) (run_all m ρ)

end Cert.KernelIdeal.Gen

end
-- ==== Proof.Val.Math.lean ====
/- The mathematics of the layer: the latent attention that both programs compute, as functions of natural
   indices, and the equations between the kernel's arrangement of it and the reference's. -/
module

public import Idealize.ShloMosaic.Lib.Pointwise
public import Idealize.ShloMosaic.PureOps.Ideal.Laws
public import Idealize.ShloMosaic.Lib.IdealHost

@[expose] public section

noncomputable section

namespace Cert.Val

open Idealize.ShloMosaic

/-! ## Extended reals that are real -/

/-- A finite sum of reals is real. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A product of reals, summed, is real. -/
theorem coe_sum_mul {ι : Type*} (s : Finset ι) (f g : ι → ℝ) :
    ∑ k ∈ s, ((f k : ℝ) : EReal) * ((g k : ℝ) : EReal) = ((∑ k ∈ s, f k * g k : ℝ) : EReal) := by
  rw [← coe_sum]; exact Finset.sum_congr rfl fun k _ => (EReal.coe_mul _ _).symm

/-- The quotient of reals by a real that is not zero. -/
theorem div_real (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_real {r : ℝ} (h : 0 < r) : Ideal.rsqrt (r : EReal) = (((Real.sqrt r)⁻¹ : ℝ) : EReal) := by
  rw [Ideal.rsqrt_coe, if_neg h.not_gt, if_neg h.ne']

/-- A sum of extended reals times a real that is not negative is the sum of the products. -/
theorem sum_mul_real {ι : Type*} (s : Finset ι) (f : ι → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- Extended reals divided by the root of their mean square plus a positive number are real: where one is infinite the
    reciprocal root is zero. -/
theorem norm_real {n : ℕ} (f : Fin n → EReal) {N e : ℝ} (hN : 0 < N) (he : 0 < e) (c : Fin n) :
    ∃ r : ℝ, f c * Ideal.rsqrt (Ideal.div (∑ k, f k * f k) (N : EReal) + (e : EReal)) = (r : EReal) := by
  by_cases h : ∃ k, f k = ⊤ ∨ f k = ⊥
  · obtain ⟨k, hk⟩ := h
    have hkk : f k * f k = ⊤ := by rcases hk with hk | hk <;> rw [hk] <;> rfl
    have h0 : ∀ k ∈ Finset.univ, 0 ≤ f k * f k := fun k _ => by
      induction f k with
      | bot => exact le_top
      | top => exact le_top
      | coe r => rw [← EReal.coe_mul]; exact EReal.coe_nonneg.mpr (mul_self_nonneg r)
    have hs : ∑ k, f k * f k = ⊤ := top_le_iff.mp (hkk ▸ Finset.single_le_sum h0 (Finset.mem_univ k))
    refine ⟨0, ?_⟩
    rw [hs, Ideal.div_coe hN.ne', EReal.top_mul_coe_of_pos (by positivity), EReal.top_add_coe, Ideal.rsqrt_top, mul_zero]
    rfl
  · have hf : ∀ k, f k = (((f k).toReal : ℝ) : EReal) := fun k =>
      (EReal.coe_toReal (fun e => h ⟨k, Or.inl e⟩) (fun e => h ⟨k, Or.inr e⟩)).symm
    have hp : 0 < (∑ k, (f k).toReal * (f k).toReal) / N + e :=
      add_pos_of_nonneg_of_pos (div_nonneg (Finset.sum_nonneg fun _ _ => mul_self_nonneg _) hN.le) he
    have hs : ∑ k, f k * f k = ((∑ k, (f k).toReal * (f k).toReal : ℝ) : EReal) := by
      rw [← coe_sum_mul]; exact Finset.sum_congr rfl fun k _ => congrArg₂ (· * ·) (hf k) (hf k)
    refine ⟨(f c).toReal * (Real.sqrt ((∑ k, (f k).toReal * (f k).toReal) / N + e))⁻¹, ?_⟩
    rw [hs, div_real _ hN.ne', ← EReal.coe_add, rsqrt_real hp, EReal.coe_mul, ← hf c]

/-- The literal that stands for the normalisation's epsilon. -/
def eps : ℝ := 8796093 * (2 : ℝ) ^ (-43 : ℤ)
/-- The literal that stands for the scores' scale. -/
def scl : ℝ := 9686330 * (2 : ℝ) ^ (-27 : ℤ)

/-- The literal of the epsilon, as an extended real. -/
theorem ofBits_eps : Ideal.ofBits .f32 0x358637BD#32 = (eps : EReal) := by
  simp [Ideal.ofBits, Ideal.ieee, eps]
/-- The literal of the scale, as an extended real. -/
theorem ofBits_scl : Ideal.ofBits .f32 0x3D93CD3A#32 = (scl : EReal) := by
  simp [Ideal.ofBits, Ideal.ieee, scl]
/-- The literal of 1536, as an extended real. -/
theorem ofBits_1536 : Ideal.ofBits .f32 0x44C00000#32 = ((1536 : ℝ) : EReal) := by
  simp [Ideal.ofBits, Ideal.ieee, -EReal.coe_mul]; norm_num
/-- The literal of 512, as an extended real. -/
theorem ofBits_512 : Ideal.ofBits .f32 0x44000000#32 = ((512 : ℝ) : EReal) := by
  simp [Ideal.ofBits, Ideal.ieee, -EReal.coe_mul]; norm_num
/-- The literal of 2, as an extended real. -/
theorem ofBits_two : Ideal.ofBits .f32 0x40000000#32 = ((2 : ℝ) : EReal) := by
  simp [Ideal.ofBits, Ideal.ieee, -EReal.coe_mul]; norm_num
/-- The literal of 64, as an extended real. -/
theorem ofBits_64 : Ideal.ofBits .f32 0x42800000#32 = ((64 : ℝ) : EReal) := by
  simp [Ideal.ofBits, Ideal.ieee, -EReal.coe_mul]; norm_num
/-- The literal of 10000, as an extended real. -/
theorem ofBits_theta : Ideal.ofBits .f32 0x461C4000#32 = ((10000 : ℝ) : EReal) := by
  simp [Ideal.ofBits, Ideal.ieee, -EReal.coe_mul]; norm_num
/-- The literal of 1, as an extended real. -/
theorem ofBits_one : Ideal.ofBits .f32 0x3F800000#32 = ((1 : ℝ) : EReal) := by
  simp [Ideal.ofBits, Ideal.ieee, -EReal.coe_mul]; norm_num
/-- The literal of −∞, as an extended real. -/
theorem ofBits_bot : Ideal.ofBits .f32 0xFF800000#32 = ⊥ := by
  simp [Ideal.ofBits, Ideal.ieee]
/-- The literal of +∞, as an extended real. -/
theorem ofBits_top : Ideal.ofBits .f32 0x7F800000#32 = ⊤ := by
  simp [Ideal.ofBits, Ideal.ieee]

/-- The epsilon is positive. -/
theorem eps_pos : 0 < eps := by unfold eps; positivity

/-! ## The layer -/

/-- The arrays that the attention reads, by natural indices: the tokens, the weights, and the tables of cosines and sines
    (one column for each pair of rotated coordinates). The weights of the two latents need not be real, nor those of the
    values; `wp` and `wk` are the real parts of the others, the shared key's columns and the heads' keys' columns. -/
structure Inp where
  x : ℕ → ℕ → ℝ
  wa : ℕ → ℕ → EReal
  qw : ℕ → ℝ
  wb : ℕ → ℕ → ℝ
  wkv : ℕ → ℕ → EReal
  wp : ℕ → ℕ → ℝ
  wkv_eq : ∀ k c, 512 ≤ c → wkv k c = (wp k c : EReal)
  kw : ℕ → ℝ
  wkb : ℕ → ℕ → EReal
  wk : ℕ → ℕ → ℝ
  wkb_eq : ∀ k c, c % 256 < 128 → wkb k c = (wk k c : EReal)
  cs : ℕ → ℕ → ℝ
  sn : ℕ → ℕ → ℝ

variable (I : Inp)

/-- The queries' latent before its normalisation. -/
def xa (t c : ℕ) : EReal := ∑ k : Fin 4096, (I.x t k : EReal) * I.wa k c
/-- Its mean square, with epsilon. -/
def msq (t : ℕ) : EReal := Ideal.div (∑ c : Fin 1536, xa I t c * xa I t c) ((1536 : ℝ) : EReal) + (eps : EReal)
/-- The normalised latent of the queries. -/
def ql (t c : ℕ) : ℝ := (xa I t c * Ideal.rsqrt (msq I t)).toReal * I.qw c
/-- The queries of all heads. -/
def q (t c : ℕ) : ℝ := ∑ k : Fin 1536, ql I t k * I.wb k c
/-- The keys' and values' latent (512 columns) and the shared rotated key (64 columns), before either is finished. -/
def kv (t c : ℕ) : EReal := ∑ k : Fin 4096, (I.x t k : EReal) * I.wkv k c
/-- The columns of the shared rotated key, which are real. -/
def kp (t c : ℕ) : ℝ := ∑ k : Fin 4096, I.x t k * I.wp k c
/-- The mean square of that latent, with epsilon. -/
def msk (t : ℕ) : EReal := Ideal.div (∑ c : Fin 512, kv I t c * kv I t c) ((512 : ℝ) : EReal) + (eps : EReal)
/-- The normalised latent of keys and values. -/
def kl (t c : ℕ) : ℝ := (kv I t c * Ideal.rsqrt (msk I t)).toReal * I.kw c
/-- The keys and values of all heads. -/
def kvn (t c : ℕ) : EReal := ∑ k : Fin 512, (kl I t k : EReal) * I.wkb k c
/-- The columns of the keys, which are real. -/
def kn (t c : ℕ) : ℝ := ∑ k : Fin 512, kl I t k * I.wk k c
/-- The rotation of interleaved pairs at token `t`, coordinate `d`. -/
def rope (f : ℕ → ℝ) (t d : ℕ) : ℝ :=
  if d % 2 = 0 then f d * I.cs t (d / 2) - f (d + 1) * I.sn t (d / 2)
  else f (d - 1) * I.sn t (d / 2) + f d * I.cs t (d / 2)
/-- The rotated key that all heads share. -/
def kpe (t d : ℕ) : ℝ := rope I (fun e => kp I t (512 + e)) t d
/-- Head `h`'s query at token `t`. -/
def qh (h t d : ℕ) : ℝ := if d < 128 then q I t (192 * h + d) else rope I (fun e => q I t (192 * h + 128 + e)) t (d - 128)
/-- Head `h`'s key at token `s`. -/
def kh (h s d : ℕ) : ℝ := if d < 128 then kn I s (256 * h + d) else kpe I s (d - 128)
/-- Head `h`'s value at token `s`. -/
def vv (h s d : ℕ) : EReal := kvn I s (256 * h + 128 + d)
/-- The scaled score. -/
def sc (h t s : ℕ) : ℝ := (∑ d : Fin 192, qh I h t d * kh I h s d) * scl
/-- The weight before division: zero at the later tokens. -/
def wt (h t s : ℕ) : ℝ := if s ≤ t then Real.exp (sc I h t s) else 0
/-- The sum of a row's weights. -/
def den (h t : ℕ) : ℝ := ∑ s : Fin 2048, wt I h t s
/-- The weighted sum of values. -/
def num (h t d : ℕ) : EReal := ∑ s : Fin 2048, (wt I h t s : EReal) * vv I h s d
/-- The attention's output, heads side by side. -/
def att (t c : ℕ) : EReal := num I (c / 128) t (c % 128) * ((1 / den I (c / 128) t : ℝ) : EReal)

/-- The queries' latent is real, whatever its weights are. -/
theorem ql_eq (t : ℕ) {c : ℕ} (hc : c < 1536) :
    xa I t c * Ideal.rsqrt (msq I t) * (I.qw c : EReal) = (ql I t c : EReal) := by
  obtain ⟨r, hr⟩ := norm_real (fun k : Fin 1536 => xa I t k) (by norm_num : (0 : ℝ) < 1536) eps_pos ⟨c, hc⟩
  have h : xa I t c * Ideal.rsqrt (msq I t) = (r : EReal) := hr
  rw [ql, h, EReal.toReal_coe, EReal.coe_mul]
/-- So is the latent of keys and values. -/
theorem kl_eq (t : ℕ) {c : ℕ} (hc : c < 512) :
    kv I t c * Ideal.rsqrt (msk I t) * (I.kw c : EReal) = (kl I t c : EReal) := by
  obtain ⟨r, hr⟩ := norm_real (fun k : Fin 512 => kv I t k) (by norm_num : (0 : ℝ) < 512) eps_pos ⟨c, hc⟩
  have h : kv I t c * Ideal.rsqrt (msk I t) = (r : EReal) := hr
  rw [kl, h, EReal.toReal_coe, EReal.coe_mul]
/-- The shared key is real. -/
theorem kv_real (t : ℕ) {c : ℕ} (hc : 512 ≤ c) : kv I t c = (kp I t c : EReal) := by
  unfold kv kp; rw [← coe_sum_mul]
  exact Finset.sum_congr rfl fun k _ => by rw [I.wkv_eq _ _ hc]
/-- The heads' keys are real. -/
theorem kvn_real (t : ℕ) {c : ℕ} (hc : c % 256 < 128) : kvn I t c = (kn I t c : EReal) := by
  unfold kvn kn; rw [← coe_sum_mul]
  exact Finset.sum_congr rfl fun k _ => by rw [I.wkb_eq _ _ hc]

/-- No weight is negative. -/
theorem wt_nonneg (h t s : ℕ) : 0 ≤ wt I h t s := by
  unfold wt; split
  · exact (Real.exp_pos _).le
  · exact le_rfl

/-- A row's weights have a positive sum: the token attends to itself. -/
theorem den_pos (h : ℕ) {t : ℕ} (ht : t < 2048) : 0 < den I h t := by
  refine Finset.sum_pos' (fun s _ => wt_nonneg I h t s) ⟨⟨t, ht⟩, Finset.mem_univ _, ?_⟩
  simp only [wt, le_refl, if_true]; exact Real.exp_pos _

/-! ## The kernel's arrangement -/

/-- The kernel's latent of the queries carries the scale. -/
def qls (t c : ℕ) : ℝ := scl * ql I t c
/-- So do its queries. -/
def qs (t c : ℕ) : ℝ := ∑ k : Fin 1536, qls I t k * I.wb k c

/-- It is what the kernel computes, where the scale multiplies the reciprocal root. -/
theorem qls_eq (t : ℕ) {c : ℕ} (hc : c < 1536) :
    xa I t c * (Ideal.rsqrt (msq I t) * (scl : EReal)) * (I.qw c : EReal) = (qls I t c : EReal) := by
  rw [qls, EReal.coe_mul, ← ql_eq I t hc]
  simp only [mul_assoc, mul_comm, mul_left_comm]

/-- The kernel's queries are the queries times the scale. -/
theorem qs_eq (t c : ℕ) : qs I t c = scl * q I t c := by
  unfold qs q; rw [Finset.mul_sum]
  refine Finset.sum_congr rfl fun k _ => ?_
  unfold qls; ring

/-- The kernel's table of cosines: each column twice. -/
def cs2 (t d : ℕ) : ℝ := I.cs t (d / 2)
/-- The kernel's table of sines: each column twice, negated at the even coordinates. -/
def sn2 (t d : ℕ) : ℝ := if d % 2 = 0 then -I.sn t (d / 2) else I.sn t (d / 2)

/-- The number that swaps with `d` within a pair. -/
def flip (d : ℕ) : ℕ := if d % 2 = 0 then d + 1 else d - 1

/-- The partner is a coordinate too. -/
theorem flip_lt {d : ℕ} (h : d < 64) : flip d < 64 := by unfold flip; split <;> omega

/-- A sum against the permutation that swaps within pairs picks the partner. -/
theorem sum_flip (f : ℕ → ℝ) {d : ℕ} (hd : d < 64) :
    (∑ k : Fin 64, f k * (if flip k = d then (1 : ℝ) else 0)) = f (flip d) := by
  rw [Finset.sum_eq_single (⟨flip d, flip_lt hd⟩ : Fin 64)]
  · have : flip (flip d) = d := by unfold flip; split <;> split <;> omega
    simp [this]
  · intro k _ hk
    rw [if_neg, mul_zero]
    intro h; apply hk; apply Fin.ext
    show (k : ℕ) = flip d
    rw [← h]; unfold flip; split <;> split <;> omega
  · intro h; exact absurd (Finset.mem_univ _) h

/-- The kernel's rotation: the coordinate times the cosine plus its partner times the signed sine. -/
theorem rope_eq (f : ℕ → ℝ) (t d : ℕ) : f d * cs2 I t d + f (flip d) * sn2 I t d = rope I f t d := by
  unfold cs2 sn2 rope flip
  split <;> ring

/-- The rotation of scaled coordinates is the scaled rotation. -/
theorem rope_scl (f : ℕ → ℝ) (t d : ℕ) : rope I (fun e => scl * f e) t d = scl * rope I f t d := by
  unfold rope; split <;> ring

/-- Head `h`'s scaled query. -/
def qhs (h t d : ℕ) : ℝ := if d < 128 then qs I t (192 * h + d) else rope I (fun e => qs I t (192 * h + 128 + e)) t (d - 128)

/-- So are a head's queries the scaled queries. -/
theorem qhs_eq (h t d : ℕ) : qhs I h t d = scl * qh I h t d := by
  unfold qhs qh
  split
  · exact qs_eq I _ _
  · simp only [qs_eq]; exact rope_scl I _ _ _

/-- The kernel's score, of scaled queries, is the scaled score. -/
theorem sc_eq (h t s : ℕ) : (∑ d : Fin 192, qhs I h t d * kh I h s d) = sc I h t s := by
  unfold sc; rw [Finset.sum_mul]
  refine Finset.sum_congr rfl fun d _ => ?_
  rw [qhs_eq]; ring

/-- A sum over all tokens, by halves. -/
theorem sum_halves {M : Type*} [AddCommMonoid M] (f : ℕ → M) :
    (∑ s : Fin 2048, f s) = (∑ s : Fin 1024, f (1024 * 0 + s)) + ∑ s : Fin 1024, f (1024 * 1 + s) := by
  rw [Fin.sum_univ_eq_sum_range f 2048, Fin.sum_univ_eq_sum_range (fun i => f (1024 * 0 + i)) 1024,
    Fin.sum_univ_eq_sum_range (fun i => f (1024 * 1 + i)) 1024, show 2048 = 1024 + 1024 from rfl, Finset.sum_range_add]
  simp only [Nat.mul_zero, Nat.zero_add, Nat.mul_one]

/-- A sum over all tokens that is zero at the late ones is the sum over the first half. -/
theorem sum_first {M : Type*} [AddCommMonoid M] (f : ℕ → M) (hf : ∀ s, 1024 ≤ s → f s = 0) :
    (∑ s : Fin 2048, f s) = ∑ s : Fin 1024, f (1024 * 0 + s) := by
  rw [sum_halves f, Finset.sum_eq_zero (s := Finset.univ) (f := fun s : Fin 1024 => f (1024 * 1 + s))
    (fun s _ => hf _ (by omega)), add_zero]

/-! ## The reference's arrangement -/

/-- The reference's weights, shifted by any real and divided by their sum, give the same weighted sum of values. -/
theorem att_shift (m : ℝ) (h d : ℕ) {t : ℕ} (ht : t < 2048) :
    (∑ s : Fin 2048, vv I h s d * (((wt I h t s * Real.exp (-m)) / ∑ s : Fin 2048, wt I h t s * Real.exp (-m) : ℝ) : EReal))
      = num I h t d * ((1 / den I h t : ℝ) : EReal) := by
  have hm := (Real.exp_pos (-m)).ne'
  have hd := (den_pos I h ht).ne'
  have e : ∀ s : ℕ, (wt I h t s * Real.exp (-m)) / (∑ s : Fin 2048, wt I h t s * Real.exp (-m)) = wt I h t s * (1 / den I h t) := by
    intro s
    rw [← Finset.sum_mul]
    change (wt I h t s * Real.exp (-m)) / (den I h t * Real.exp (-m)) = _
    field_simp
  rw [num, sum_mul_real _ _ (by have := den_pos I h ht; positivity)]
  refine Finset.sum_congr rfl fun s _ => ?_
  rw [e, EReal.coe_mul, ← mul_assoc, mul_comm (vv I h s d)]

end Cert.Val

end
-- ==== Proof.Val.RefA.lean ====
/- The reference's arrays up to the heads' queries, keys and values, read at one index: the tables of cosines and sines,
   the two latents and their normalisations, and what the up-projections make of them. -/
module

public import proofs.«01_k».proof.Proof.Val.Math
public import proofs.«01_k».proof.Proof.Gen.ReferenceIdeal.Read

@[expose] public section

set_option maxRecDepth 16384

noncomputable section

namespace Cert.Val

open Idealize.ShloMosaic
open Cert.ReferenceIdeal Cert.ReferenceIdeal.Read

/-- The angle by which position `p` rotates the `k`-th pair. -/
def ang (p : BitVec 32) (k : ℕ) : ℝ := ((p.toInt : ℤ) : ℝ) * (1 / Real.rpow 10000 ((0 + 2 * (k : ℝ)) / 64))

/-- The arrays that a program is given hold the arrays `I`. -/
structure Args (I : Inp) (x0 : S2048x4096.Idx → EReal) (x1 : S2048.Idx → BitVec 32) (x2 : S4096x1536.Idx → EReal)
    (x3 : S1536.Idx → EReal) (x4 : S1536x6144.Idx → EReal) (x5 : S4096x576.Idx → EReal) (x6 : S512.Idx → EReal)
    (x7 : S512x8192.Idx → EReal) : Prop where
  x : ∀ i, x0 i = ((I.x (i 0) (i 1) : ℝ) : EReal)
  wa : ∀ i, x2 i = I.wa (i 0) (i 1)
  qw : ∀ i, x3 i = ((I.qw (i 0) : ℝ) : EReal)
  wb : ∀ i, x4 i = ((I.wb (i 0) (i 1) : ℝ) : EReal)
  wkv : ∀ i, x5 i = I.wkv (i 0) (i 1)
  kw : ∀ i, x6 i = ((I.kw (i 0) : ℝ) : EReal)
  wkb : ∀ i, x7 i = I.wkb (i 0) (i 1)
  cs : ∀ (i : S2048.Idx) (k : ℕ), I.cs (i 0) k = Real.cos (ang (x1 i) k)
  sn : ∀ (i : S2048.Idx) (k : ℕ), I.sn (i 0) k = Real.sin (ang (x1 i) k)
  inc : ∀ i j : S2048.Idx, (x1 j).toInt ≤ (x1 i).toInt ↔ (j 0).val ≤ (i 0).val

variable {I : Inp} {x0 : S2048x4096.Idx → EReal} {x1 : S2048.Idx → BitVec 32} {x2 : S4096x1536.Idx → EReal}
    {x3 : S1536.Idx → EReal} {x4 : S1536x6144.Idx → EReal} {x5 : S4096x576.Idx → EReal} {x6 : S512.Idx → EReal}
    {x7 : S512x8192.Idx → EReal} (H : Args I x0 x1 x2 x3 x4 x5 x6 x7)

/-- The index of a row of the host's iota is a real. -/
theorem sitofp_small (n : ℕ) (h : n < 32) : ((((BitVec.ofNat 32 n).toInt : ℤ) : ℝ) : EReal) = ((n : ℝ) : EReal) := by
  have hn : (BitVec.ofNat 32 n).toNat = n := by rw [BitVec.toNat_ofNat]; omega
  have hi : (BitVec.ofNat 32 n).toInt = (n : ℤ) := by rw [BitVec.toInt_eq_toNat_of_lt (by omega), hn]
  rw [hi]; simp

/-- The frequency of the `k`-th pair. -/
theorem ref_inv (i : S32.Idx) :
    val_main_v10 (F := Ideal) i = ((1 / Real.rpow 10000 ((0 + 2 * ((i 0).val : ℝ)) / 64) : ℝ) : EReal) := by
  have h0 : val_main_v0 (F := Ideal) i = (((i 0).val : ℝ) : EReal) := sitofp_small _ (i 0).isLt
  have hp : Real.rpow 10000 ((0 + 2 * ((i 0).val : ℝ)) / 64) ≠ 0 := (Real.rpow_pos_of_pos (by norm_num) _).ne'
  rw [val_main_v10_apply, val_main_v9_apply, val_main_v8_apply, val_main_v7_apply, val_main_v6_apply, val_main_v5_apply,
    val_main_v4_apply, val_main_v3_apply, val_main_v2_apply, val_main_v1_apply, h0]
  show Ideal.div (Ideal.ofBits .f32 0x3F800000#32) (Ideal.pow (Ideal.ofBits .f32 0x461C4000#32)
    (Ideal.div (Ideal.ofBits .f32 0x00000000#32 + Ideal.ofBits .f32 0x40000000#32 * _) (Ideal.ofBits .f32 0x42800000#32))) = _
  rw [Ideal.ofBits_zero_f32, ofBits_one, ofBits_theta, ofBits_two, ofBits_64, ← EReal.coe_zero, ← EReal.coe_mul, ← EReal.coe_add,
    div_real _ (by norm_num), Ideal.pow_coe_coe, div_real _ hp]

/-- The angle of a position and a pair. -/
theorem ref_ang (x1 : S2048.Idx → BitVec 32) (i : S2048x32.Idx) :
    val_main_v16 (F := Ideal) x1 i = ((ang (x1 (ix1 (i 0))) (i 1) : ℝ) : EReal) := by
  rw [val_main_v16_apply, val_main_v15_apply, val_main_v14_apply, val_main_v13_apply, val_main_v12_apply, val_main_v11_apply, ref_inv]
  refine (EReal.coe_mul _ _).symm.trans ?_
  have e : idx_main_v12 (idx_main_v14 i) = ix1 (i 0) := funext fun a => match a with | ⟨0, _⟩ => rfl
  rw [e]; rfl

include H

/-- The table of cosines. -/
theorem ref_cos (i : S2048x32.Idx) : val_main_v17 (F := Ideal) x1 i = ((I.cs (i 0) (i 1) : ℝ) : EReal) := by
  rw [val_main_v17_apply, ref_ang]
  exact congrArg Real.toEReal (H.cs (ix1 (i 0)) (i 1)).symm

/-- The table of sines. -/
theorem ref_sin (i : S2048x32.Idx) : val_main_v19 (F := Ideal) x1 i = ((I.sn (i 0) (i 1) : ℝ) : EReal) := by
  rw [val_main_v19_apply, ref_ang]
  exact congrArg Real.toEReal (H.sn (ix1 (i 0)) (i 1)).symm

/-- The queries' latent. -/
theorem ref_xa (i : S2048x1536.Idx) : val_main_v21 (F := Ideal) x0 x2 i = xa I (i 0) (i 1) := by
  refine (val_main_v21_apply x0 x2 i).trans ?_
  simp only [H.x, H.wa]
  rfl

/-- Its reciprocal root mean square. -/
theorem ref_rq (i : S2048x1.Idx) : val_main_v29 (F := Ideal) x0 x2 i = Ideal.rsqrt (msq I (i 0)) := by
  have e : val_main_v28 (F := Ideal) x0 x2 i = msq I (i 0) := by
    rw [val_main_v28_apply, val_main_v26_apply, val_main_v27_apply, val_main_v25_apply, val_main_v24_apply, val_main_v23_apply]
    have h : ∀ k : Fin 1536, val_main_v22 (F := Ideal) x0 x2 (idx_main_v23 (idx_main_v24 i) k)
        = xa I (i 0) k * xa I (i 0) k := fun k => by
      rw [val_main_v22_apply, ref_xa H]; rfl
    simp only [h]
    show Ideal.div (Ideal.ofBits .f32 0x00000000#32 + _) (Ideal.ofBits .f32 0x44C00000#32) + Ideal.ofBits .f32 0x358637BD#32 = _
    rw [Ideal.ofBits_zero_f32, zero_add, ofBits_1536, ofBits_eps]
    rfl
  rw [val_main_v29_apply, e]
  rfl

/-- The normalised latent of the queries. -/
theorem ref_ql (i : S2048x1536.Idx) : val_main_v34 (F := Ideal) x0 x2 x3 i = ((ql I (i 0) (i 1) : ℝ) : EReal) := by
  rw [val_main_v34_apply, val_main_v31_apply, val_main_v30_apply, val_main_v33_apply, val_main_v32_apply, ref_xa H, ref_rq H, H.qw]
  exact ql_eq I (i 0) (i 1).isLt

/-- The queries of all heads. -/
theorem ref_q (i : S2048x6144.Idx) : val_main_v35 (F := Ideal) x0 x2 x3 x4 i = ((q I (i 0) (i 1) : ℝ) : EReal) := by
  refine (val_main_v35_apply x0 x2 x3 x4 i).trans ?_
  simp only [ref_ql H, H.wb]
  exact coe_sum_mul _ _ _

/-- The queries with the heads apart. -/
theorem ref_qh (i : S2048x32x192.Idx) :
    val_main_v36 (F := Ideal) x0 x2 x3 x4 i = ((q I (i 0) (192 * (i 1).val + (i 2).val) : ℝ) : EReal) := by
  rw [val_main_v36_apply, ref_q H]
  have h1 : (i 1).val < 32 := (i 1).isLt
  have h2 : (i 2).val < 192 := (i 2).isLt
  have e0 : ((idx_main_v36 i) 0).val = (i 0).val := by
    show (((i 0).val * 32 + (i 1).val) * 192 + (i 2).val) / 6144 = _; omega
  have e1 : ((idx_main_v36 i) 1).val = 192 * (i 1).val + (i 2).val := by
    show (((i 0).val * 32 + (i 1).val) * 192 + (i 2).val) % 6144 = _; omega
  rw [e0, e1]

/-- The keys' and values' latent. -/
theorem ref_kv (i : S2048x576.Idx) : val_main_v55 (F := Ideal) x0 x5 i = kv I (i 0) (i 1) := by
  refine (val_main_v55_apply x0 x5 i).trans ?_
  simp only [H.x, H.wkv]
  rfl

/-- Its first 512 columns. -/
theorem ref_kvl (i : S2048x512.Idx) : val_main_v56 (F := Ideal) x0 x5 i = kv I (i 0) (i 1) := by
  rw [val_main_v56_apply, ref_kv H]

/-- Their reciprocal root mean square. -/
theorem ref_rk (i : S2048x1.Idx) : val_main_v78 (F := Ideal) x0 x5 i = Ideal.rsqrt (msk I (i 0)) := by
  have e : val_main_v77 (F := Ideal) x0 x5 i = msk I (i 0) := by
    rw [val_main_v77_apply, val_main_v75_apply, val_main_v76_apply, val_main_v74_apply, val_main_v73_apply, val_main_v72_apply]
    have h : ∀ k : Fin 512, val_main_v71 (F := Ideal) x0 x5 (idx_main_v72 (idx_main_v73 i) k)
        = kv I (i 0) k * kv I (i 0) k := fun k => by
      rw [val_main_v71_apply, ref_kvl H]; rfl
    simp only [h]
    show Ideal.div (Ideal.ofBits .f32 0x00000000#32 + _) (Ideal.ofBits .f32 0x44000000#32) + Ideal.ofBits .f32 0x358637BD#32 = _
    rw [Ideal.ofBits_zero_f32, zero_add, ofBits_512, ofBits_eps]
    rfl
  rw [val_main_v78_apply, e]
  rfl

/-- The normalised latent of keys and values. -/
theorem ref_kl (i : S2048x512.Idx) : val_main_v83 (F := Ideal) x0 x5 x6 i = ((kl I (i 0) (i 1) : ℝ) : EReal) := by
  rw [val_main_v83_apply, val_main_v80_apply, val_main_v79_apply, val_main_v82_apply, val_main_v81_apply, ref_kvl H, ref_rk H, H.kw]
  exact kl_eq I (i 0) (i 1).isLt

/-- The keys and values of all heads. -/
theorem ref_kvn (i : S2048x8192.Idx) : val_main_v84 (F := Ideal) x0 x5 x6 x7 i = kvn I (i 0) (i 1) := by
  refine (val_main_v84_apply x0 x5 x6 x7 i).trans ?_
  simp only [ref_kl H, H.wkb]
  rfl

/-- The same with the heads apart. -/
theorem ref_kvh (i : S2048x32x256.Idx) :
    val_main_v85 (F := Ideal) x0 x5 x6 x7 i = kvn I (i 0) (256 * (i 1).val + (i 2).val) := by
  rw [val_main_v85_apply, ref_kvn H]
  have h1 : (i 1).val < 32 := (i 1).isLt
  have h2 : (i 2).val < 256 := (i 2).isLt
  have e0 : ((idx_main_v85 i) 0).val = (i 0).val := by
    show (((i 0).val * 32 + (i 1).val) * 256 + (i 2).val) / 8192 = _; omega
  have e1 : ((idx_main_v85 i) 1).val = 256 * (i 1).val + (i 2).val := by
    show (((i 0).val * 32 + (i 1).val) * 256 + (i 2).val) % 8192 = _; omega
  rw [e0, e1]

/-- The heads' keys without position. -/
theorem ref_kn (i : S2048x32x128.Idx) :
    val_main_v86 (F := Ideal) x0 x5 x6 x7 i = ((kn I (i 0) (256 * (i 1).val + (i 2).val) : ℝ) : EReal) := by
  have h2 : (i 2).val < 128 := (i 2).isLt
  rw [val_main_v86_apply, ref_kvh H]
  exact kvn_real I _ (show (256 * (i 1).val + (i 2).val) % 256 < 128 by omega)

/-- The heads' values. -/
theorem ref_v (i : S2048x32x128.Idx) :
    val_main_v87 (F := Ideal) x0 x5 x6 x7 i = vv I (i 1) (i 0) (i 2) := by
  rw [val_main_v87_apply, ref_kvh H]
  show kvn I (i 0) (256 * (i 1).val + (128 + (i 2).val)) = _
  rw [← Nat.add_assoc]; rfl

end Cert.Val

end
-- ==== Proof.Val.RefB.lean ====
/- The reference's rotated queries and keys, its whole queries and keys, and its masked scores, read at one index. -/
module

public import proofs.«01_k».proof.Proof.Val.RefA

@[expose] public section

set_option maxRecDepth 16384

noncomputable section

namespace Cert.Val

open Idealize.ShloMosaic
open Cert.ReferenceIdeal Cert.ReferenceIdeal.Read

variable {I : Inp} {x0 : S2048x4096.Idx → EReal} {x1 : S2048.Idx → BitVec 32} {x2 : S4096x1536.Idx → EReal}
    {x3 : S1536.Idx → EReal} {x4 : S1536x6144.Idx → EReal} {x5 : S4096x576.Idx → EReal} {x6 : S512.Idx → EReal}
    {x7 : S512x8192.Idx → EReal} (H : Args I x0 x1 x2 x3 x4 x5 x6 x7)

/-- The part of head `h`'s query that is rotated. -/
def qr (I : Inp) (h t e : ℕ) : ℝ := q I t (192 * h + 128 + e)
/-- The part of the shared key that is rotated. -/
def kr (I : Inp) (t e : ℕ) : ℝ := kp I t (512 + e)

/-- A rotation by pairs: the even coordinate. -/
theorem rope_even (f : ℕ → ℝ) (t d : ℕ) : rope I f t (2 * d) = f (2 * d) * I.cs t d - f (2 * d + 1) * I.sn t d := by
  unfold rope; rw [if_pos (by omega), show 2 * d / 2 = d by omega]
/-- A rotation by pairs: the odd coordinate. -/
theorem rope_odd (f : ℕ → ℝ) (t d : ℕ) : rope I f t (2 * d + 1) = f (2 * d) * I.sn t d + f (2 * d + 1) * I.cs t d := by
  unfold rope; rw [if_neg (by omega), show (2 * d + 1) / 2 = d by omega, show 2 * d + 1 - 1 = 2 * d by omega]

include H

/-- The cosines, spread over the heads. -/
theorem ref_cos3 (i : S2048x1x32.Idx) : val_main_v18 (F := Ideal) x1 i = ((I.cs (i 0) (i 2) : ℝ) : EReal) := by
  rw [val_main_v18_apply, ref_cos H]
/-- The sines, spread over the heads. -/
theorem ref_sin3 (i : S2048x1x32.Idx) : val_main_v20 (F := Ideal) x1 i = ((I.sn (i 0) (i 2) : ℝ) : EReal) := by
  rw [val_main_v20_apply, ref_sin H]

/-- The rotated part of the queries. -/
theorem ref_qr (i : S2048x32x64.Idx) : val_main_v38 (F := Ideal) x0 x2 x3 x4 i = ((qr I (i 1) (i 0) (i 2) : ℝ) : EReal) := by
  rw [val_main_v38_apply, ref_qh H]
  show ((q I (i 0) (192 * (i 1).val + (128 + (i 2).val)) : ℝ) : EReal) = _
  rw [← Nat.add_assoc]; rfl

/-- Its even coordinates. -/
theorem ref_qe (i : S2048x32x32.Idx) :
    val_main_v39 (F := Ideal) x0 x2 x3 x4 i = ((qr I (i 1) (i 0) (2 * (i 2).val) : ℝ) : EReal) := by
  obtain ⟨a, b, d, rfl⟩ : ∃ (a : Fin 2048) (b : Fin 32) (d : Fin 32), i = ix3 a b d := ⟨i 0, i 1, i 2, eq_ix3 i⟩
  unfold val_main_v39
  simp only [pointwise, ref_qr H]
  show ((qr I (0 + 1 * b.val) (0 + 1 * a.val) (0 + 2 * d.val) : ℝ) : EReal) = _
  rw [zero_add, one_mul, zero_add, one_mul, zero_add]

/-- Its odd coordinates. -/
theorem ref_qo (i : S2048x32x32.Idx) :
    val_main_v40 (F := Ideal) x0 x2 x3 x4 i = ((qr I (i 1) (i 0) (2 * (i 2).val + 1) : ℝ) : EReal) := by
  obtain ⟨a, b, d, rfl⟩ : ∃ (a : Fin 2048) (b : Fin 32) (d : Fin 32), i = ix3 a b d := ⟨i 0, i 1, i 2, eq_ix3 i⟩
  unfold val_main_v40
  simp only [pointwise, ref_qr H]
  show ((qr I (0 + 1 * b.val) (0 + 1 * a.val) (1 + 2 * d.val) : ℝ) : EReal) = _
  rw [zero_add, one_mul, zero_add, one_mul, Nat.add_comm]

/-- The rotated queries' even coordinates. -/
theorem ref_qre (i : S2048x32x32.Idx) :
    val_main_v45 (F := Ideal) x0 x1 x2 x3 x4 i = ((rope I (qr I (i 1) (i 0)) (i 0) (2 * (i 2).val) : ℝ) : EReal) := by
  rw [val_main_v45_apply, val_main_v42_apply, val_main_v44_apply, val_main_v41_apply, val_main_v43_apply, ref_qe H, ref_qo H,
    ref_cos3 H, ref_sin3 H, rope_even]
  exact (congrArg₂ (· - ·) (EReal.coe_mul _ _).symm (EReal.coe_mul _ _).symm).trans (EReal.coe_sub _ _).symm

/-- The rotated queries' odd coordinates. -/
theorem ref_qro (i : S2048x32x32.Idx) :
    val_main_v50 (F := Ideal) x0 x1 x2 x3 x4 i = ((rope I (qr I (i 1) (i 0)) (i 0) (2 * (i 2).val + 1) : ℝ) : EReal) := by
  rw [val_main_v50_apply, val_main_v47_apply, val_main_v49_apply, val_main_v46_apply, val_main_v48_apply, ref_qe H, ref_qo H,
    ref_cos3 H, ref_sin3 H, rope_odd]
  exact (congrArg₂ (· + ·) (EReal.coe_mul _ _).symm (EReal.coe_mul _ _).symm).trans (EReal.coe_add _ _).symm

/-- The rotated queries by pairs. -/
theorem ref_qrp (i : S2048x32x32x2.Idx) :
    val_main_v53 (F := Ideal) x0 x1 x2 x3 x4 i = ((rope I (qr I (i 1) (i 0)) (i 0) (2 * (i 2).val + (i 3).val) : ℝ) : EReal) := by
  obtain ⟨a, b, d, e, rfl⟩ : ∃ (a : Fin 2048) (b : Fin 32) (d : Fin 32) (e : Fin 2), i = ix4 a b d e :=
    ⟨i 0, i 1, i 2, i 3, eq_ix4 i⟩
  unfold val_main_v53
  simp only [pointwise]
  split
  · rename_i h
    rw [val_main_v51_apply, ref_qre H]
    have he : e.val = 0 := by omega
    exact congrArg (fun n => ((rope I (qr I b.val a.val) a.val (2 * d.val + n) : ℝ) : EReal)) he.symm
  · rename_i h
    rw [val_main_v52_apply, ref_qro H]
    have he : e.val = 1 := by omega
    exact congrArg (fun n => ((rope I (qr I b.val a.val) a.val (2 * d.val + n) : ℝ) : EReal)) he.symm

/-- The rotated queries. -/
theorem ref_qpe (i : S2048x32x64.Idx) :
    val_main_v54 (F := Ideal) x0 x1 x2 x3 x4 i = ((rope I (qr I (i 1) (i 0)) (i 0) (i 2) : ℝ) : EReal) := by
  rw [val_main_v54_apply, ref_qrp H]
  have h1 : (i 1).val < 32 := (i 1).isLt
  have h2 : (i 2).val < 64 := (i 2).isLt
  have e0 : ((idx_main_v54 i) 0).val = (i 0).val := by
    show (((i 0).val * 32 + (i 1).val) * 64 + (i 2).val) / 2048 = _; omega
  have e1 : ((idx_main_v54 i) 1).val = (i 1).val := by
    show (((i 0).val * 32 + (i 1).val) * 64 + (i 2).val) / 64 % 32 = _; omega
  have e2 : 2 * ((idx_main_v54 i) 2).val + ((idx_main_v54 i) 3).val = (i 2).val := by
    show 2 * ((((i 0).val * 32 + (i 1).val) * 64 + (i 2).val) / 2 % 32) + (((i 0).val * 32 + (i 1).val) * 64 + (i 2).val) % 2 = _
    omega
  rw [e0, e1, e2]

/-- The rotated part of the keys. -/
theorem ref_kr (i : S2048x1x64.Idx) : val_main_v58 (F := Ideal) x0 x5 i = ((kr I (i 0) (i 2) : ℝ) : EReal) := by
  rw [val_main_v58_apply, val_main_v57_apply, ref_kv H]
  exact kv_real I _ (Nat.le_add_right 512 _)

/-- Its even coordinates. -/
theorem ref_ke (i : S2048x1x32.Idx) :
    val_main_v59 (F := Ideal) x0 x5 i = ((kr I (i 0) (2 * (i 2).val) : ℝ) : EReal) := by
  obtain ⟨a, b, d, rfl⟩ : ∃ (a : Fin 2048) (b : Fin 1) (d : Fin 32), i = ix3 a b d := ⟨i 0, i 1, i 2, eq_ix3 i⟩
  unfold val_main_v59
  simp only [pointwise, ref_kr H]
  show ((kr I (0 + 1 * a.val) (0 + 2 * d.val) : ℝ) : EReal) = _
  rw [zero_add, one_mul, zero_add]

/-- Its odd coordinates. -/
theorem ref_ko (i : S2048x1x32.Idx) :
    val_main_v60 (F := Ideal) x0 x5 i = ((kr I (i 0) (2 * (i 2).val + 1) : ℝ) : EReal) := by
  obtain ⟨a, b, d, rfl⟩ : ∃ (a : Fin 2048) (b : Fin 1) (d : Fin 32), i = ix3 a b d := ⟨i 0, i 1, i 2, eq_ix3 i⟩
  unfold val_main_v60
  simp only [pointwise, ref_kr H]
  show ((kr I (0 + 1 * a.val) (1 + 2 * d.val) : ℝ) : EReal) = _
  rw [zero_add, one_mul, Nat.add_comm]

/-- The rotated keys' even coordinates. -/
theorem ref_kre (i : S2048x1x32.Idx) :
    val_main_v63 (F := Ideal) x0 x1 x5 i = ((rope I (kr I (i 0)) (i 0) (2 * (i 2).val) : ℝ) : EReal) := by
  rw [val_main_v63_apply, val_main_v61_apply, val_main_v62_apply, ref_ke H, ref_ko H, ref_cos3 H, ref_sin3 H, rope_even]
  exact (congrArg₂ (· - ·) (EReal.coe_mul _ _).symm (EReal.coe_mul _ _).symm).trans (EReal.coe_sub _ _).symm

/-- The rotated keys' odd coordinates. -/
theorem ref_kro (i : S2048x1x32.Idx) :
    val_main_v66 (F := Ideal) x0 x1 x5 i = ((rope I (kr I (i 0)) (i 0) (2 * (i 2).val + 1) : ℝ) : EReal) := by
  rw [val_main_v66_apply, val_main_v64_apply, val_main_v65_apply, ref_ke H, ref_ko H, ref_cos3 H, ref_sin3 H, rope_odd]
  exact (congrArg₂ (· + ·) (EReal.coe_mul _ _).symm (EReal.coe_mul _ _).symm).trans (EReal.coe_add _ _).symm

/-- The rotated keys by pairs. -/
theorem ref_krp (i : S2048x1x32x2.Idx) :
    val_main_v69 (F := Ideal) x0 x1 x5 i = ((rope I (kr I (i 0)) (i 0) (2 * (i 2).val + (i 3).val) : ℝ) : EReal) := by
  obtain ⟨a, b, d, e, rfl⟩ : ∃ (a : Fin 2048) (b : Fin 1) (d : Fin 32) (e : Fin 2), i = ix4 a b d e :=
    ⟨i 0, i 1, i 2, i 3, eq_ix4 i⟩
  unfold val_main_v69
  simp only [pointwise]
  split
  · rename_i h
    rw [val_main_v67_apply, ref_kre H]
    have he : e.val = 0 := by omega
    exact congrArg (fun n => ((rope I (kr I a.val) a.val (2 * d.val + n) : ℝ) : EReal)) he.symm
  · rename_i h
    rw [val_main_v68_apply, ref_kro H]
    have he : e.val = 1 := by omega
    exact congrArg (fun n => ((rope I (kr I a.val) a.val (2 * d.val + n) : ℝ) : EReal)) he.symm

/-- The rotated keys. -/
theorem ref_kpe (i : S2048x1x64.Idx) :
    val_main_v70 (F := Ideal) x0 x1 x5 i = ((kpe I (i 0) (i 2) : ℝ) : EReal) := by
  rw [val_main_v70_apply, ref_krp H]
  have h1 : (i 1).val < 1 := (i 1).isLt
  have h2 : (i 2).val < 64 := (i 2).isLt
  have e0 : ((idx_main_v70 i) 0).val = (i 0).val := by
    show (((i 0).val * 1 + (i 1).val) * 64 + (i 2).val) / 64 = _; omega
  have e2 : 2 * ((idx_main_v70 i) 2).val + ((idx_main_v70 i) 3).val = (i 2).val := by
    show 2 * ((((i 0).val * 1 + (i 1).val) * 64 + (i 2).val) / 2 % 32) + (((i 0).val * 1 + (i 1).val) * 64 + (i 2).val) % 2 = _
    omega
  rw [e0, e2]; rfl

/-- The whole queries. -/
theorem ref_qhh (i : S2048x32x192.Idx) :
    val_main_v88 (F := Ideal) x0 x1 x2 x3 x4 i = ((qh I (i 1) (i 0) (i 2) : ℝ) : EReal) := by
  obtain ⟨a, b, d, rfl⟩ : ∃ (a : Fin 2048) (b : Fin 32) (d : Fin 192), i = ix3 a b d := ⟨i 0, i 1, i 2, eq_ix3 i⟩
  unfold val_main_v88
  simp only [pointwise]
  split
  · rename_i h
    rw [val_main_v37_apply, ref_qh H]
    refine congrArg Real.toEReal (Eq.symm ?_)
    show qh I b.val a.val d.val = _
    unfold qh; rw [if_pos h]; rfl
  · rename_i h
    rw [ref_qpe H]
    refine congrArg Real.toEReal (Eq.symm ?_)
    show qh I b.val a.val d.val = _
    unfold qh; rw [if_neg h]; rfl

/-- The whole keys. -/
theorem ref_khh (i : S2048x32x192.Idx) :
    val_main_v90 (F := Ideal) x0 x1 x5 x6 x7 i = ((kh I (i 1) (i 0) (i 2) : ℝ) : EReal) := by
  obtain ⟨a, b, d, rfl⟩ : ∃ (a : Fin 2048) (b : Fin 32) (d : Fin 192), i = ix3 a b d := ⟨i 0, i 1, i 2, eq_ix3 i⟩
  unfold val_main_v90
  simp only [pointwise]
  split
  · rename_i h
    rw [ref_kn H]
    refine congrArg Real.toEReal (Eq.symm ?_)
    show kh I b.val a.val d.val = _
    unfold kh; rw [if_pos h]; rfl
  · rename_i h
    rw [val_main_v89_apply, ref_kpe H]
    refine congrArg Real.toEReal (Eq.symm ?_)
    show kh I b.val a.val d.val = _
    unfold kh; rw [if_neg h]; rfl

/-- The scaled scores. -/
theorem ref_sc (i : S32x2048x2048.Idx) :
    val_main_v93 (F := Ideal) x0 x1 x2 x3 x4 x5 x6 x7 i = ((sc I (i 0) (i 1) (i 2) : ℝ) : EReal) := by
  rw [val_main_v93_apply, val_main_v91_apply, val_main_v92_apply]
  simp only [ref_qhh H, ref_khh H, coe_sum_mul]
  show _ * Ideal.ofBits .f32 0x3D93CD3A#32 = _
  rw [ofBits_scl, ← EReal.coe_mul]; rfl

/-- The masked scores: those of later tokens are −∞. -/
theorem ref_ms (i : S32x2048x2048.Idx) :
    val_main_v100 (F := Ideal) x0 x1 x2 x3 x4 x5 x6 x7 i
      = if (i 2).val ≤ (i 1).val then ((sc I (i 0) (i 1) (i 2) : ℝ) : EReal) else ⊥ := by
  rw [val_main_v100_apply, val_main_call0_v1_apply, val_main_v99_apply, val_main_v98_apply, val_main_v96_apply, val_main_v97_apply,
    val_main_v94_apply, val_main_v95_apply, val_main_call0_v2_apply, val_main_call0_v0_apply, ref_sc H]
  have e1 : idx_main_v94 (idx_main_v96 (idx_main_v99 (idx_main_call0_v1 i))) = ix1 (i 1) := funext fun a => match a with | ⟨0, _⟩ => rfl
  have e2 : idx_main_v95 (idx_main_v97 (idx_main_v99 (idx_main_call0_v1 i))) = ix1 (i 2) := funext fun a => match a with | ⟨0, _⟩ => rfl
  rw [e1, e2]
  refine if_congr (IntOp.cmpi_sge.trans (H.inc (ix1 (i 1)) (ix1 (i 2)))) rfl ?_
  exact ofBits_bot

end Cert.Val

end
-- ==== Proof.Val.RefC.lean ====
/- The reference's softmax and its result, read at one index: the row's greatest score is a real, by which the weights are
   shifted; the quotients do not depend on it. -/
module

public import proofs.«01_k».proof.Proof.Val.RefB

@[expose] public section

set_option maxRecDepth 16384

noncomputable section

namespace Cert.Val

open Idealize.ShloMosaic
open Cert.ReferenceIdeal Cert.ReferenceIdeal.Read

variable {I : Inp} {x0 : S2048x4096.Idx → EReal} {x1 : S2048.Idx → BitVec 32} {x2 : S4096x1536.Idx → EReal}
    {x3 : S1536.Idx → EReal} {x4 : S1536x6144.Idx → EReal} {x5 : S4096x576.Idx → EReal} {x6 : S512.Idx → EReal}
    {x7 : S512x8192.Idx → EReal} (H : Args I x0 x1 x2 x3 x4 x5 x6 x7)

include H

/-- The greatest masked score of a row is a real: the token's own score is one, and none is +∞. -/
theorem ref_max (i : S32x2048.Idx) :
    ∃ M : ℝ, val_main_v103 (F := Ideal) x0 x1 x2 x3 x4 x5 x6 x7 i = ((M : ℝ) : EReal) := by
  obtain ⟨h, t, rfl⟩ : ∃ (h : Fin 32) (t : Fin 2048), i = ix2 h t := ⟨i 0, i 1, eq_ix2 i⟩
  have e : val_main_v103 (F := Ideal) x0 x1 x2 x3 x4 x5 x6 x7 (ix2 h t)
      = Finset.univ.fold max (⊥ : EReal) fun s : Fin 2048 => if s.val ≤ t.val then ((sc I h t s : ℝ) : EReal) else ⊥ := by
    rw [val_main_v103_apply, val_main_v102_apply]
    refine Eq.trans ?_ (bot_sup_eq _)
    refine congrArg₂ (max (α := EReal)) ofBits_bot ?_
    unfold val_main_v101
    simp only [pointwise, ref_ms H]
    exact congrArg (fun b => Finset.fold max b _ Finset.univ) ofBits_bot
  have h1 : val_main_v103 (F := Ideal) x0 x1 x2 x3 x4 x5 x6 x7 (ix2 h t) < ⊤ := by
    rw [e, Finset.fold_max_lt]
    refine ⟨bot_lt_top, fun s _ => ?_⟩
    split
    · exact EReal.coe_lt_top _
    · exact bot_lt_top
  have h2 : ⊥ < val_main_v103 (F := Ideal) x0 x1 x2 x3 x4 x5 x6 x7 (ix2 h t) := by
    rw [e, Finset.lt_fold_max]
    exact Or.inr ⟨t, Finset.mem_univ _, by rw [if_pos le_rfl]; exact EReal.bot_lt_coe _⟩
  exact ⟨_, (EReal.coe_toReal h1.ne h2.ne').symm⟩

/-- A row's weights, shifted by its greatest score. -/
theorem ref_wt (h : Fin 32) (t s : Fin 2048) {M : ℝ}
    (hM : val_main_v103 (F := Ideal) x0 x1 x2 x3 x4 x5 x6 x7 (ix2 h t) = ((M : ℝ) : EReal)) :
    val_main_v107 (F := Ideal) x0 x1 x2 x3 x4 x5 x6 x7 (ix3 h t s) = ((wt I h t s * Real.exp (-M) : ℝ) : EReal) := by
  have e : idx_main_v104 (idx_main_v105 (ix3 h t s)) = ix2 h t := funext fun a => match a with | ⟨0, _⟩ => rfl | ⟨1, _⟩ => rfl
  rw [val_main_v107_apply, val_main_v106_apply, val_main_v105_apply, val_main_v104_apply, e, hM, ref_ms H, wt]
  show Ideal.exp ((if s.val ≤ t.val then ((sc I h t s : ℝ) : EReal) else ⊥) - _) = _
  split
  · rw [← EReal.coe_sub, Ideal.exp_coe, ← Real.exp_add, sub_eq_add_neg]
  · rw [EReal.bot_sub, Ideal.exp_bot, zero_mul]; rfl

/-- The heads' outputs. -/
theorem ref_num (i : S32x128x2048.Idx) :
    val_main_v112 (F := Ideal) x0 x1 x2 x3 x4 x5 x6 x7 i
      = num I (i 0) (i 2) (i 1) * ((1 / den I (i 0) (i 2) : ℝ) : EReal) := by
  obtain ⟨h, d, t, rfl⟩ : ∃ (h : Fin 32) (d : Fin 128) (t : Fin 2048), i = ix3 h d t := ⟨i 0, i 1, i 2, eq_ix3 i⟩
  obtain ⟨M, hM⟩ := ref_max H (ix2 h t)
  have hw : ∀ s : Fin 2048, val_main_v107 (F := Ideal) x0 x1 x2 x3 x4 x5 x6 x7 (ix3 h t s)
      = ((wt I h t s * Real.exp (-M) : ℝ) : EReal) := fun s => ref_wt H h t s hM
  have hd : 0 < ∑ s : Fin 2048, wt I h t s * Real.exp (-M) := by
    rw [← Finset.sum_mul]; exact mul_pos (den_pos I _ t.isLt) (Real.exp_pos _)
  have hp : ∀ s : Fin 2048, val_main_v111 (F := Ideal) x0 x1 x2 x3 x4 x5 x6 x7 (ix3 h t s)
      = ((wt I h t s * Real.exp (-M) / (∑ s : Fin 2048, wt I h t s * Real.exp (-M)) : ℝ) : EReal) := fun s => by
    rw [val_main_v111_apply, val_main_v110_apply, val_main_v109_apply, val_main_v108_apply]
    refine Eq.trans (congrArg₂ Ideal.div (hw s) ?_) (div_real _ hd.ne')
    show Ideal.ofBits .f32 0x00000000#32 + _ = _
    rw [Ideal.ofBits_zero_f32, zero_add, ← coe_sum]
    refine Finset.sum_congr rfl fun k _ => Eq.trans (congrArg _ ?_) (hw k)
    exact funext fun a => match a with | ⟨0, _⟩ => rfl | ⟨1, _⟩ => rfl | ⟨2, _⟩ => rfl
  refine (val_main_v112_apply x0 x1 x2 x3 x4 x5 x6 x7 (ix3 h d t)).trans ?_
  refine Eq.trans ?_ (att_shift I M h d t.isLt)
  refine Finset.sum_congr rfl fun s _ => congrArg₂ (· * ·) (ref_v H _) (Eq.trans (congrArg _ ?_) (hp s))
  exact funext fun a => match a with | ⟨0, _⟩ => rfl | ⟨1, _⟩ => rfl | ⟨2, _⟩ => rfl

/-- The attention's output, heads side by side. -/
theorem ref_att (i : S2048x4096.Idx) :
    val_main_v114 (F := Ideal) x0 x1 x2 x3 x4 x5 x6 x7 i = att I (i 0) (i 1) := by
  rw [val_main_v114_apply, val_main_v113_apply, ref_num H]
  have h1 : (i 1).val < 4096 := (i 1).isLt
  have e0 : ((idx_main_v113 (idx_main_v114 i)) 0).val = (i 1).val / 128 := by
    show ((i 0).val * 4096 + (i 1).val) / 128 % 32 = _; omega
  have e1 : ((idx_main_v113 (idx_main_v114 i)) 1).val = (i 1).val % 128 := by
    show ((i 0).val * 4096 + (i 1).val) % 128 = _; omega
  have e2 : ((idx_main_v113 (idx_main_v114 i)) 2).val = (i 0).val := by
    show ((i 0).val * 4096 + (i 1).val) / 4096 = _; omega
  rw [e0, e1, e2]; rfl

/-- The reference's result. -/
theorem ref_out (x8 : S4096x4096.Idx → EReal) (i : S2048x4096.Idx) :
    val_main_v115 (F := Ideal) x0 x1 x2 x3 x4 x5 x6 x7 x8 i
      = ∑ k : Fin 4096, att I (i 0) k * x8 (ix2 k (i 1)) := by
  refine (val_main_v115_apply x0 x1 x2 x3 x4 x5 x6 x7 x8 i).trans ?_
  refine Finset.sum_congr rfl fun k _ => ?_
  refine congrArg₂ (· * ·) (ref_att H _) (congrArg x8 ?_)
  exact funext fun a => match a with | ⟨0, _⟩ => rfl | ⟨1, _⟩ => rfl

end Cert.Val

end
-- ==== Proof.Val.Pay.lean ====
/- What the launches' kernels compute at a block of the inputs. -/
module

public import proofs.«01_k».proof.Proof.Val.Math
public import proofs.«01_k».proof.Proof.RunI.Main

@[expose] public section

set_option maxRecDepth 16384

noncomputable section

namespace Cert.Val

open Idealize.ShloMosaic Cert.KernelIdeal Cert.KernelIdeal.Gen

/-- The entry of the permutation that swaps within pairs, as the kernels build it from two counters. -/
theorem perm_real (x y : Fin 64) :
    FloatOps.sitofp (F := Ideal) FTy.f32 (BitVec.setWidth 32 (IntOp.cmpi CmpIPredicate.eq (IntOp.xori (BitVec.ofNat 32 x) 1#32) (BitVec.ofNat 32 y)))
      = (((if flip x = y then (1 : ℝ) else 0) : ℝ) : EReal) := by
  have h : ∀ x y : Fin 64, (BitVec.setWidth 32 (IntOp.cmpi CmpIPredicate.eq (IntOp.xori (BitVec.ofNat 32 x) 1#32) (BitVec.ofNat 32 y))).toInt
      = if flip x = y then 1 else 0 := by decide +kernel
  show (((BitVec.toInt _ : ℤ) : ℝ) : EReal) = _
  rw [h x y]; split <;> simp

variable (I : Inp)

/-- The first kernel's queries' latent. -/
theorem pay_ql (T : ℕ) (v0 : Vec Ideal S256x4096 .f32) (v2 : Vec Ideal S4096x1536 .f32) (v17 : Vec Ideal S1x1536 .f32)
    (h0 : ∀ i, v0 i = ((I.x (T + i 0) (i 1) : ℝ) : EReal)) (h2 : ∀ i, v2 i = I.wa (i 0) (i 1))
    (h17 : ∀ i, v17 i = ((I.qw (i 1) : ℝ) : EReal)) (j : S256x1536.Idx) :
    k0_pay4 (F := Ideal) v0 v2 v17 j = ((qls I (T + j 0) (j 1) : ℝ) : EReal) := by
  obtain ⟨r, d, rfl⟩ : ∃ (r : Fin 256) (d : Fin 1536), j = ix2 r d := ⟨j 0, j 1, eq_ix2 j⟩
  unfold k0_pay4 k0_pay3
  pointwise
  simp only [h0, h2, h17, ofBits_1536, ofBits_eps, ofBits_scl]
  exact Eq.trans (b := xa I (T + r) d * (Ideal.rsqrt (msq I (T + r)) * ((scl : ℝ) : EReal)) * ((I.qw d : ℝ) : EReal)) rfl
    (qls_eq I (T + r) d.isLt)

/-- The product of the tokens with the keys' weights. -/
theorem pay_kv (T : ℕ) (v0 : Vec Ideal S256x4096 .f32) (v2 : Vec Ideal S4096x576 .f32)
    (h0 : ∀ i, v0 i = ((I.x (T + i 0) (i 1) : ℝ) : EReal)) (h2 : ∀ i, v2 i = I.wkv (i 0) (i 1))
    (j : S256x576.Idx) :
    k0_pay5 (F := Ideal) v0 v2 j = kv I (T + j 0) (j 1) := by
  unfold k0_pay5 k0_pay3
  pointwise
  simp only [h0, h2]
  rfl

/-- The normalised latent of keys and values. -/
theorem pay_kl (T : ℕ) (v0 : Vec Ideal S256x4096 .f32) (v2 : Vec Ideal S4096x576 .f32) (v37 : Vec Ideal S1x512 .f32)
    (h0 : ∀ i, v0 i = ((I.x (T + i 0) (i 1) : ℝ) : EReal)) (h2 : ∀ i, v2 i = I.wkv (i 0) (i 1))
    (h37 : ∀ i, v37 i = ((I.kw (i 1) : ℝ) : EReal)) (j : S256x512.Idx) :
    k0_pay1 (F := Ideal) (k0_pay6 v0 v2) v37 j = ((kl I (T + j 0) (j 1) : ℝ) : EReal) := by
  obtain ⟨r, d, rfl⟩ : ∃ (r : Fin 256) (d : Fin 512), j = ix2 r d := ⟨j 0, j 1, eq_ix2 j⟩
  unfold k0_pay1 k0_pay6
  pointwise
  simp only [pay_kv I T v0 v2 h0 h2, h37, ofBits_512, ofBits_eps]
  exact Eq.trans (b := kv I (T + r) d * Ideal.rsqrt (msk I (T + r)) * ((I.kw d : ℝ) : EReal)) rfl (kl_eq I (T + r) d.isLt)

/-- The rotated key. -/
theorem pay_kpe (T : ℕ) (v25 : FVec Ideal S256x576 .f32) (v44 : Vec Ideal S256x64 .f32) (v46 : Vec Ideal S256x64 .f32)
    (h25 : ∀ i, v25 i = kv I (T + i 0) (i 1))
    (h44 : ∀ i, v44 i = ((cs2 I (T + i 0) (i 1) : ℝ) : EReal)) (h46 : ∀ i, v46 i = ((sn2 I (T + i 0) (i 1) : ℝ) : EReal))
    (j : S256x64.Idx) :
    k0_pay2 (F := Ideal) v25 v44 v46 j = ((kpe I (T + j 0) (j 1) : ℝ) : EReal) := by
  obtain ⟨r, d, rfl⟩ : ∃ (r : Fin 256) (d : Fin 64), j = ix2 r d := ⟨j 0, j 1, eq_ix2 j⟩
  unfold k0_pay2
  pointwise
  have h25' : ∀ (r : Fin 256) (e : Fin 64), v25 (ix2 r ⟨512 + e, by omega⟩) = ((kp I (T + r) (512 + e) : ℝ) : EReal) :=
    fun r e => (h25 _).trans (kv_real I _ (Nat.le_add_right 512 _))
  simp only [h25', h44, h46, perm_real, coe_sum_mul]
  simp only [← EReal.coe_mul, ← EReal.coe_add]
  refine congrArg _ (Eq.trans ?_ (rope_eq I (fun e => kp I (T + r) (512 + e)) (T + r) d))
  exact congrArg (fun z => _ + z * _) (sum_flip (fun e => kp I (T + r) (512 + e)) d.isLt)

/-- The second kernel: the queries. -/
theorem pay_qs (T : ℕ) (v0 : Vec Ideal S1536x6144 .f32) (v2 : Vec Ideal S256x1536 .bf16)
    (h0 : ∀ i, v0 i = ((I.wb (i 0) (i 1) : ℝ) : EReal)) (h2 : ∀ i, v2 i = ((qls I (T + i 0) (i 1) : ℝ) : EReal))
    (j : S256x6144.Idx) :
    k1_pay1 (F := Ideal) v0 v2 j = ((qs I (T + j 0) (j 1) : ℝ) : EReal) := by
  unfold k1_pay1
  pointwise
  simp only [h0, h2, coe_sum_mul]
  rfl

/-- The third kernel: the keys and values. -/
theorem pay_kvn (T : ℕ) (v0 : Vec Ideal S512x8192 .f32) (v2 : Vec Ideal S256x512 .bf16)
    (h0 : ∀ i, v0 i = I.wkb (i 0) (i 1)) (h2 : ∀ i, v2 i = ((kl I (T + i 0) (i 1) : ℝ) : EReal))
    (j : S256x8192.Idx) :
    k2_pay1 (F := Ideal) v0 v2 j = kvn I (T + j 0) (j 1) := by
  unfold k2_pay1
  pointwise
  simp only [h0, h2]
  rfl

/-- The last kernel: the product with the output weights, which need not be real. -/
theorem pay_o (T : ℕ) (v0 : Vec Ideal S512x4096 .bf16) (v2 : Vec Ideal S4096x4096 .bf16)
    (h0 : ∀ i, v0 i = att I (T + i 0) (i 1)) (j : S512x4096.Idx) :
    k4_pay1 (F := Ideal) v0 v2 j = ∑ c : Fin 4096, att I (T + j 0) c * v2 (ix2 c (j 1)) := by
  unfold k4_pay1
  pointwise
  simp only [h0]
  rfl

/-! ## The attention kernel -/

/-- Head `h`'s part of a query block. -/
abbrev IsQ (h T : ℕ) (v : Vec Ideal S1024x192 .bf16) : Prop := ∀ i, v i = ((qs I (T + i 0) (192 * h + i 1) : ℝ) : EReal)
/-- Head `h`'s part of a block of keys and values. -/
abbrev IsKV (h T : ℕ) (v : Vec Ideal S1024x256 .bf16) : Prop := ∀ i, v i = kvn I (T + i 0) (256 * h + i 1)
/-- A block of the shared key. -/
abbrev IsKpe (T : ℕ) (v : Vec Ideal S1024x64 .bf16) : Prop := ∀ i, v i = ((kpe I (T + i 0) (i 1) : ℝ) : EReal)
/-- A block of the table of cosines. -/
abbrev IsC (T : ℕ) (v : Vec Ideal S1024x64 .f32) : Prop := ∀ i, v i = ((cs2 I (T + i 0) (i 1) : ℝ) : EReal)
/-- A block of the table of sines. -/
abbrev IsS (T : ℕ) (v : Vec Ideal S1024x64 .f32) : Prop := ∀ i, v i = ((sn2 I (T + i 0) (i 1) : ℝ) : EReal)

/-- The weights of the tokens of half `b`. -/
def denP (h t b : ℕ) : ℝ := ∑ s : Fin 1024, wt I h t (1024 * b + s)
/-- The weighted sum of the values of half `b`. -/
def numP (h t b d : ℕ) : EReal := ∑ s : Fin 1024, (wt I h t (1024 * b + s) : EReal) * vv I h (1024 * b + s) d

/-- The kernel's mask of a block of queries `a` and a block of keys `b`, none later than `a`, is causality. -/
theorem mask_eq (a b : ℕ) (hab : b ≤ a ∧ a ≤ 1) (i : S1024x1024.Idx) :
    k3_pay6 (BitVec.ofNat 32 a) (BitVec.ofNat 32 b) i = if 1024 * b + i 1 ≤ 1024 * a + i 0 then 1#1 else 0#1 := by
  obtain ⟨r, c, rfl⟩ : ∃ (r : Fin 1024) (c : Fin 1024), i = ix2 r c := ⟨i 0, i 1, eq_ix2 i⟩
  have tr : ∀ n : Fin 1024, (BitVec.ofNat 32 n).toInt = (n : ℤ) := by
    intro n; have := n.isLt
    rw [BitVec.toInt_eq_toNat_of_lt (by rw [BitVec.toNat_ofNat]; omega), BitVec.toNat_ofNat, Nat.mod_eq_of_lt (by omega)]
  have key : ∀ r c : Fin 1024, IntOp.cmpi .sge (BitVec.ofNat 32 r) (BitVec.ofNat 32 c) = if (c : ℕ) ≤ r then 1#1 else 0#1 := by
    intro r c
    show BitVec.ofBool (decide ((BitVec.ofNat 32 c).toInt ≤ (BitVec.ofNat 32 r).toInt)) = _
    rw [tr, tr]
    by_cases h : (c : ℕ) ≤ r
    · rw [if_pos h, decide_eq_true (by exact_mod_cast h)]; rfl
    · rw [if_neg h, decide_eq_false (by exact_mod_cast h)]; rfl
  unfold k3_pay6
  pointwise
  rw [key]
  have hr := r.isLt; have hc := c.isLt
  show _ = if 1024 * b + (c : ℕ) ≤ 1024 * a + (r : ℕ) then 1#1 else 0#1
  obtain ⟨rfl, rfl⟩ | ⟨rfl, rfl⟩ | ⟨rfl, rfl⟩ : (a = 0 ∧ b = 0) ∨ (a = 1 ∧ b = 0) ∨ (a = 1 ∧ b = 1) := by omega
  · by_cases h : (c : ℕ) ≤ r
    · rw [if_pos h, if_pos (by omega)]; decide
    · rw [if_neg h, if_neg (by omega)]; decide
  · rw [if_pos (by omega : 1024 * 0 + (c : ℕ) ≤ 1024 * 1 + (r : ℕ))]
    split <;> decide
  · by_cases h : (c : ℕ) ≤ r
    · rw [if_pos h, if_pos (by omega)]; decide
    · rw [if_neg h, if_neg (by omega)]; decide

/-- The score, as the kernel's contraction comes apart: the columns without position, then the rotated ones. -/
theorem sc_split (h t s : ℕ) :
    (∑ x : Fin 128, qs I t (192 * h + x) * kn I s (256 * h + x))
      + (∑ x : Fin 64, (qs I t (192 * h + (128 + x)) * cs2 I t x
          + (∑ y : Fin 64, qs I t (192 * h + (128 + y)) * (if flip y = x then (1 : ℝ) else 0)) * sn2 I t x) * kpe I s x)
      = sc I h t s := by
  rw [← sc_eq, show (∑ d : Fin 192, qhs I h t d * kh I h s d) = ∑ d : Fin (128 + 64), qhs I h t d * kh I h s d from rfl,
    Fin.sum_univ_add]
  refine congrArg₂ (· + ·) (Finset.sum_congr rfl fun x _ => ?_) (Finset.sum_congr rfl fun x _ => ?_)
  · have hx := x.isLt
    simp only [Fin.val_castAdd, qhs, kh, if_pos hx]
  · simp only [Fin.val_natAdd, qhs, kh, if_neg (by omega : ¬ (128 + (x : ℕ) < 128)), Nat.add_sub_cancel_left, ← Nat.add_assoc]
    rw [sum_flip (fun y => qs I t (192 * h + 128 + y)) x.isLt, ← rope_eq]

/-- The weights of one head between two blocks. -/
theorem pay_p (h a b : ℕ) (v36 v38 : FVec Ideal S1024x64 .f32) (v40 : FVec Ideal S1024x64 .bf16)
    (v46 : IVec S1024x1024 1) (v86 : Vec Ideal S1024x192 .bf16) (v106 : Vec Ideal S1024x256 .bf16)
    (hc : IsC I (1024 * a) v36) (hs : IsS I (1024 * a) v38) (hk : IsKpe I (1024 * b) v40)
    (hm : ∀ i, v46 i = if 1024 * b + i 1 ≤ 1024 * a + i 0 then 1#1 else 0#1)
    (hq : IsQ I h (1024 * a) v86) (hv : IsKV I h (1024 * b) v106) (j : S1024x1024.Idx) :
    k3_pay16 (F := Ideal) v36 v38 v40 v46 v86 v106 j = ((wt I h (1024 * a + j 0) (1024 * b + j 1) : ℝ) : EReal) := by
  obtain ⟨r, c, rfl⟩ : ∃ (r : Fin 1024) (c : Fin 1024), j = ix2 r c := ⟨j 0, j 1, eq_ix2 j⟩
  unfold k3_pay16 k3_pay15
  pointwise
  have hv' : ∀ (s : Fin 1024) (x : Fin 128), v106 (ix2 s ⟨x, by omega⟩) = ((kn I (1024 * b + s) (256 * h + x) : ℝ) : EReal) :=
    fun s x => (hv _).trans (kvn_real I _ (show (256 * h + (x : ℕ)) % 256 < 128 by omega))
  simp only [hc, hs, hk, hm, hq, hv', perm_real, coe_sum_mul]
  simp only [← EReal.coe_mul, ← EReal.coe_add, coe_sum]
  refine Eq.trans (b := Ideal.exp (Scalar.select (if 1024 * b + (c : ℕ) ≤ 1024 * a + (r : ℕ) then 1#1 else 0#1)
    ((_ : ℝ) : EReal) (⊥ : EReal))) rfl ?_
  refine Eq.trans (congrArg (fun z : ℝ => Ideal.exp (Scalar.select (if 1024 * b + (c : ℕ) ≤ 1024 * a + (r : ℕ) then 1#1 else 0#1)
    (z : EReal) (⊥ : EReal))) (sc_split I h (1024 * a + r) (1024 * b + c))) ?_
  show _ = ((wt I h (1024 * a + (r : ℕ)) (1024 * b + (c : ℕ)) : ℝ) : EReal)
  unfold wt
  by_cases hrc : 1024 * b + (c : ℕ) ≤ 1024 * a + (r : ℕ)
  · rw [if_pos hrc]
    simp only [if_pos hrc]
    exact Ideal.exp_coe _
  · rw [if_neg hrc]
    simp only [if_neg hrc]
    exact Ideal.exp_bot

/-- A row's sum of the weights in one block. -/
theorem pay_l (h a b : ℕ) (v36 v38 : FVec Ideal S1024x64 .f32) (v40 : FVec Ideal S1024x64 .bf16)
    (v46 : IVec S1024x1024 1) (v86 : Vec Ideal S1024x192 .bf16) (v106 : Vec Ideal S1024x256 .bf16)
    (hc : IsC I (1024 * a) v36) (hs : IsS I (1024 * a) v38) (hk : IsKpe I (1024 * b) v40)
    (hm : ∀ i, v46 i = if 1024 * b + i 1 ≤ 1024 * a + i 0 then 1#1 else 0#1)
    (hq : IsQ I h (1024 * a) v86) (hv : IsKV I h (1024 * b) v106) (j : S1024x1.Idx) :
    k3_pay17 (F := Ideal) v36 v38 v40 v46 v86 v106 j = ((denP I h (1024 * a + j 0) b : ℝ) : EReal) := by
  unfold k3_pay17
  pointwise
  simp only [pay_p I h a b v36 v38 v40 v46 v86 v106 hc hs hk hm hq hv, coe_sum]
  rfl

/-- A row's weighted sum of the values in one block. -/
theorem pay_a (h a b : ℕ) (v36 v38 : FVec Ideal S1024x64 .f32) (v40 : FVec Ideal S1024x64 .bf16)
    (v46 : IVec S1024x1024 1) (v86 : Vec Ideal S1024x192 .bf16) (v106 : Vec Ideal S1024x256 .bf16)
    (hc : IsC I (1024 * a) v36) (hs : IsS I (1024 * a) v38) (hk : IsKpe I (1024 * b) v40)
    (hm : ∀ i, v46 i = if 1024 * b + i 1 ≤ 1024 * a + i 0 then 1#1 else 0#1)
    (hq : IsQ I h (1024 * a) v86) (hv : IsKV I h (1024 * b) v106) (j : S1024x128.Idx) :
    k3_pay18 (F := Ideal) v36 v38 v40 v46 v86 v106 j = numP I h (1024 * a + j 0) b (j 1) := by
  unfold k3_pay18 k3_pay15
  pointwise
  simp only [pay_p I h a b v36 v38 v40 v46 v86 v106 hc hs hk hm hq hv, hv _]
  refine Finset.sum_congr rfl fun s _ => ?_
  unfold vv
  rw [Nat.add_assoc]
  rfl

end Cert.Val

end
-- ==== Proof.Val.Stage.lean ====
/- The arrays that the launches leave: the latents, the queries, the keys and values, and the output. -/
module

public import proofs.«01_k».proof.Proof.Val.Pay
public import Idealize.ShloMosaic.Lib.Pipeline.ValueKit
public import Idealize.ShloMosaic.Lib.Pipeline.ReadBack

@[expose] public section

set_option maxRecDepth 16384

noncomputable section

namespace Cert.Val

open Idealize.ShloMosaic Idealize.ShloMosaic.TcCoe Idealize.SL.Sem Cert.KernelIdeal Cert.KernelIdeal.Gen
open Idealize.ShloMosaic.Pipeline (Dat Cfg Window)

variable (I : Inp) (V : (c : Dev nD) → (b : Ref sig .tc) → Buf (Elt Ideal) ((c : Thread nD τ).loc b)) (c : Dev nD)

/-- Which blocks the first launch's windows read and write at a point. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0]
    ∧ win0_6.index t = ![t.val, 0] ∧ win0_7.index t = ![t.val, 0] ∧ win0_8.index t = ![t.val, 0]
    ∧ win0_9.index t = ![t.val, 0] := by decide +kernel
/-- The second launch's. -/
theorem idx1 : ∀ t : Fin cfg1.N, win1_0.index t = ![t.val, 0] ∧ win1_1.index t = ![0, 0] ∧ win1_2.index t = ![t.val, 0] := by
  decide +kernel
/-- The third launch's. -/
theorem idx2 : ∀ t : Fin cfg2.N, win2_0.index t = ![t.val, 0] ∧ win2_1.index t = ![0, 0] ∧ win2_2.index t = ![t.val, 0] := by
  decide +kernel
/-- The last launch's. -/
theorem idx4 : ∀ t : Fin cfg4.N, win4_0.index t = ![t.val, 0] ∧ win4_1.index t = ![0, 0] ∧ win4_2.index t = ![t.val, 0] := by
  decide +kernel

/-- The queries' latent that the first launch leaves. -/
theorem arr_ql (h0 : ∀ i, V c (Pipeline.arrRef spec0 0) i = ((I.x (i 0) (i 1) : ℝ) : EReal))
    (h1 : ∀ i, V c (Pipeline.arrRef spec0 1) i = I.wa (i 0) (i 1))
    (h3 : ∀ i, V c (Pipeline.arrRef spec0 3) i = ((I.qw (i 1) : ℝ) : EReal)) (i : S2048x1536.Idx) :
    (dat0 V c).arrAt 7 cfg0.N i = ((qls I (i 0) (i 1) : ℝ) : EReal) := by
  refine (dat0 V c).arrAt_forall_of_covers 7 (fun i v => v = ((qls I (i 0) (i 1) : ℝ) : EReal)) (by decide +kernel)
    (fun t hf y => ?_) i
  blk_simp
  rw [after0_7]
  frame_out
  obtain ⟨e0, e1, e2, e3, e4, e5, e6, e7, e8, e9⟩ := idx0 t
  have b0 : ∀ i, iblk0 V c 0 t i = ((I.x (t.val * 256 + i 0) (i 1) : ℝ) : EReal) := fun i => by
    refine (h0 _).trans ?_; blk_simp [e0]
  have b1 : ∀ i, iblk0 V c 1 t i = I.wa (i 0) (i 1) := fun i => by
    refine (h1 _).trans ?_; blk_simp [e1]
  have b3 : ∀ i, iblk0 V c 3 t i = ((I.qw (i 1) : ℝ) : EReal) := fun i => by
    refine (h3 _).trans ?_; blk_simp [e3]
  refine (pay_ql I _ _ _ _ b0 b1 b3 y).trans ?_
  blk_simp [e7]

/-- The latent of keys and values that the first launch leaves. -/
theorem arr_kl (h0 : ∀ i, V c (Pipeline.arrRef spec0 0) i = ((I.x (i 0) (i 1) : ℝ) : EReal))
    (h2 : ∀ i, V c (Pipeline.arrRef spec0 2) i = I.wkv (i 0) (i 1))
    (h4 : ∀ i, V c (Pipeline.arrRef spec0 4) i = ((I.kw (i 1) : ℝ) : EReal)) (i : S2048x512.Idx) :
    (dat0 V c).arrAt 8 cfg0.N i = ((kl I (i 0) (i 1) : ℝ) : EReal) := by
  refine (dat0 V c).arrAt_forall_of_covers 8 (fun i v => v = ((kl I (i 0) (i 1) : ℝ) : EReal)) (by decide +kernel)
    (fun t hf y => ?_) i
  blk_simp
  rw [after0_8]
  frame_out
  obtain ⟨e0, e1, e2, e3, e4, e5, e6, e7, e8, e9⟩ := idx0 t
  have b0 : ∀ i, iblk0 V c 0 t i = ((I.x (t.val * 256 + i 0) (i 1) : ℝ) : EReal) := fun i => by
    refine (h0 _).trans ?_; blk_simp [e0]
  have b2 : ∀ i, iblk0 V c 2 t i = I.wkv (i 0) (i 1) := fun i => by
    refine (h2 _).trans ?_; blk_simp [e2]
  have b4 : ∀ i, iblk0 V c 4 t i = ((I.kw (i 1) : ℝ) : EReal) := fun i => by
    refine (h4 _).trans ?_; blk_simp [e4]
  refine (pay_kl I _ _ _ _ b0 b2 b4 y).trans ?_
  blk_simp [e8]

/-- The rotated key that the first launch leaves. -/
theorem arr_kpe (h0 : ∀ i, V c (Pipeline.arrRef spec0 0) i = ((I.x (i 0) (i 1) : ℝ) : EReal))
    (h2 : ∀ i, V c (Pipeline.arrRef spec0 2) i = I.wkv (i 0) (i 1))
    (h5 : ∀ i, V c (Pipeline.arrRef spec0 5) i = ((cs2 I (i 0) (i 1) : ℝ) : EReal))
    (h6 : ∀ i, V c (Pipeline.arrRef spec0 6) i = ((sn2 I (i 0) (i 1) : ℝ) : EReal)) (i : S2048x64.Idx) :
    (dat0 V c).arrAt 9 cfg0.N i = ((kpe I (i 0) (i 1) : ℝ) : EReal) := by
  refine (dat0 V c).arrAt_forall_of_covers 9 (fun i v => v = ((kpe I (i 0) (i 1) : ℝ) : EReal)) (by decide +kernel)
    (fun t hf y => ?_) i
  blk_simp
  rw [after0_9]
  frame_out
  obtain ⟨e0, e1, e2, e3, e4, e5, e6, e7, e8, e9⟩ := idx0 t
  have b0 : ∀ i, iblk0 V c 0 t i = ((I.x (t.val * 256 + i 0) (i 1) : ℝ) : EReal) := fun i => by
    refine (h0 _).trans ?_; blk_simp [e0]
  have b2 : ∀ i, iblk0 V c 2 t i = I.wkv (i 0) (i 1) := fun i => by
    refine (h2 _).trans ?_; blk_simp [e2]
  have b5 : ∀ i, iblk0 V c 5 t i = ((cs2 I (t.val * 256 + i 0) (i 1) : ℝ) : EReal) := fun i => by
    refine (h5 _).trans ?_; blk_simp [e5]
  have b6 : ∀ i, iblk0 V c 6 t i = ((sn2 I (t.val * 256 + i 0) (i 1) : ℝ) : EReal) := fun i => by
    refine (h6 _).trans ?_; blk_simp [e6]
  refine (pay_kpe I _ _ _ _ (pay_kv I _ _ _ b0 b2) b5 b6 y).trans ?_
  blk_simp [e9]

/-- The queries that the second launch leaves. -/
theorem arr_qs (h0 : ∀ i, V c (Pipeline.arrRef spec1 0) i = ((qls I (i 0) (i 1) : ℝ) : EReal))
    (h1 : ∀ i, V c (Pipeline.arrRef spec1 1) i = ((I.wb (i 0) (i 1) : ℝ) : EReal)) (i : S2048x6144.Idx) :
    (dat1 V c).arrAt 2 cfg1.N i = ((qs I (i 0) (i 1) : ℝ) : EReal) := by
  refine (dat1 V c).arrAt_forall_of_covers 2 (fun i v => v = ((qs I (i 0) (i 1) : ℝ) : EReal)) (by decide +kernel)
    (fun t hf y => ?_) i
  blk_simp
  rw [after1_2]
  frame_out
  obtain ⟨e0, e1, e2⟩ := idx1 t
  have b0 : ∀ i, iblk1 V c 0 t i = ((qls I (t.val * 256 + i 0) (i 1) : ℝ) : EReal) := fun i => by
    refine (h0 _).trans ?_; blk_simp [e0]
  have b1 : ∀ i, iblk1 V c 1 t i = ((I.wb (i 0) (i 1) : ℝ) : EReal) := fun i => by
    refine (h1 _).trans ?_; blk_simp [e1]
  refine (pay_qs I _ _ _ b1 b0 y).trans ?_
  blk_simp [e2]

/-- The keys and values that the third launch leaves. -/
theorem arr_kvn (h0 : ∀ i, V c (Pipeline.arrRef spec2 0) i = ((kl I (i 0) (i 1) : ℝ) : EReal))
    (h1 : ∀ i, V c (Pipeline.arrRef spec2 1) i = I.wkb (i 0) (i 1)) (i : S2048x8192.Idx) :
    (dat2 V c).arrAt 2 cfg2.N i = kvn I (i 0) (i 1) := by
  refine (dat2 V c).arrAt_forall_of_covers 2 (fun i v => v = kvn I (i 0) (i 1)) (by decide +kernel)
    (fun t hf y => ?_) i
  blk_simp
  rw [after2_2]
  frame_out
  obtain ⟨e0, e1, e2⟩ := idx2 t
  have b0 : ∀ i, iblk2 V c 0 t i = ((kl I (t.val * 256 + i 0) (i 1) : ℝ) : EReal) := fun i => by
    refine (h0 _).trans ?_; blk_simp [e0]
  have b1 : ∀ i, iblk2 V c 1 t i = I.wkb (i 0) (i 1) := fun i => by
    refine (h1 _).trans ?_; blk_simp [e1]
  refine (pay_kvn I _ _ _ b1 b0 y).trans ?_
  blk_simp [e2]

/-- The output that the last launch leaves, with output weights that need not be real. -/
theorem arr_o (wo : S4096x4096.Idx → EReal) (h0 : ∀ i, V c (Pipeline.arrRef spec4 0) i = att I (i 0) (i 1))
    (h1 : ∀ i, V c (Pipeline.arrRef spec4 1) i = wo i) (i : S2048x4096.Idx) :
    (dat4 V c).arrAt 2 cfg4.N i = ∑ k : Fin 4096, att I (i 0) k * wo (ix2 k (i 1)) := by
  refine (dat4 V c).arrAt_forall_of_covers 2 (fun i v => v = ∑ k : Fin 4096, att I (i 0) k * wo (ix2 k (i 1))) (by decide +kernel)
    (fun t hf y => ?_) i
  blk_simp
  rw [after4_2]
  frame_out
  obtain ⟨e0, e1, e2⟩ := idx4 t
  have b0 : ∀ i, iblk4 V c 0 t i = att I (t.val * 512 + i 0) (i 1) := fun i => by
    refine (h0 _).trans ?_; blk_simp [e0]
  have b1 : ∀ i, iblk4 V c 1 t i = wo i := fun i => by
    refine (h1 _).trans ?_
    blk_ext [e1]
  refine (pay_o I _ _ _ b0 y).trans ?_
  blk_simp [e2]
  refine Finset.sum_congr rfl fun k _ => ?_
  rw [b1]
  congr 1
  blk_ext [e2]

end Cert.Val

end
-- ==== Proof.Val.Attn.lean ====
/- The attention launch: what each grid point computes of its blocks, what it leaves for the next point,
   and the array it leaves. -/
module

public import proofs.«01_k».proof.Proof.Val.Pay
public import Idealize.ShloMosaic.Lib.Pipeline.ValueKit
public import Idealize.ShloMosaic.Lib.Pipeline.ReadBack

@[expose] public section

set_option maxRecDepth 16384

noncomputable section

namespace Cert.Val

open Idealize.ShloMosaic Idealize.ShloMosaic.TcCoe Idealize.SL.Sem Cert.KernelIdeal Cert.KernelIdeal.Gen
open Idealize.ShloMosaic.Pipeline (Dat Cfg Window)

variable (I : Inp)

/-! ## Sums by halves -/

/-- At an early token only the first half has weight. -/
theorem num_first (h d : ℕ) {t : ℕ} (ht : t < 1024) : num I h t d = numP I h t 0 d :=
  sum_first (fun s => (wt I h t s : EReal) * vv I h s d) fun s hs => by
    rw [wt, if_neg (by omega), EReal.coe_zero, zero_mul]
/-- The same of the weights' sum. -/
theorem den_first (h : ℕ) {t : ℕ} (ht : t < 1024) : den I h t = denP I h t 0 :=
  sum_first (fun s => wt I h t s) fun s hs => by rw [wt, if_neg (by omega)]
/-- The weighted values are the sums of the two halves. -/
theorem num_both (h d t : ℕ) : num I h t d = numP I h t 0 d + numP I h t 1 d := sum_halves fun s => (wt I h t s : EReal) * vv I h s d
/-- So are the weights' sums. -/
theorem den_both (h t : ℕ) : den I h t = denP I h t 0 + denP I h t 1 := sum_halves fun s => wt I h t s

/-! ## The kernel's words -/

/-- The kernel's quotient of a word by two, rounded down. -/
def half (x : BitVec 32) : BitVec 32 :=
  Scalar.select (Scalar.andi (Scalar.cmpi .ne (Scalar.subi (Scalar.extui (Scalar.cmpi .sgt x 0#32)) (Scalar.extui (Scalar.cmpi .slt x 0#32))) 1#32)
      (Scalar.cmpi .ne (Scalar.remsi x 2#32) 0#32))
    (Scalar.subi (Scalar.divsi x 2#32) 1#32) (Scalar.divsi x 2#32)
/-- The definition, to fold by. -/
theorem half_def (x : BitVec 32) : half x =
  Scalar.select (Scalar.andi (Scalar.cmpi .ne (Scalar.subi (Scalar.extui (Scalar.cmpi .sgt x 0#32)) (Scalar.extui (Scalar.cmpi .slt x 0#32))) 1#32)
      (Scalar.cmpi .ne (Scalar.remsi x 2#32) 0#32))
    (Scalar.subi (Scalar.divsi x 2#32) 1#32) (Scalar.divsi x 2#32) := rfl

/-- That quotient at one of the grid's words. -/
theorem half_0 : half 0#32 = 0#32 := by decide
/-- That quotient at one of the grid's words. -/
theorem half_1 : half 1#32 = 0#32 := by decide
/-- That quotient at one of the grid's words. -/
theorem half_2 : half 2#32 = 1#32 := by decide
/-- That quotient at one of the grid's words. -/
theorem half_01 : half (Scalar.addi 0#32 1#32) = 0#32 := by decide
/-- That quotient at one of the grid's words. -/
theorem half_11 : half (Scalar.addi 1#32 1#32) = 1#32 := by decide
/-- That quotient at one of the grid's words. -/
theorem half_21 : half (Scalar.addi 2#32 1#32) = 1#32 := by decide

/-- The second coordinate of a grid point. -/
theorem coord3 : ∀ t : Fin cfg3.N, (grid3.coords t 1 : ℕ) = t.val % 3 := by decide +kernel

/-- Which blocks the launch's windows read and write at a point. -/
theorem idx3 : ∀ t : Fin cfg3.N, win3_0.index t = ![(t.val % 3 + 1) / 2, t.val / 3] ∧ win3_1.index t = ![t.val % 3 / 2, t.val / 3]
    ∧ win3_2.index t = ![t.val % 3 / 2, 0] ∧ win3_3.index t = ![(t.val % 3 + 1) / 2, 0] ∧ win3_4.index t = ![(t.val % 3 + 1) / 2, 0]
    ∧ win3_5.index t = ![(t.val % 3 + 1) / 2, t.val / 3] := by decide +kernel

/-! ## One point's blocks -/

/-- The blocks that a point reads: rows of queries `a`, rows of keys `b`, pair of heads `p`. -/
structure Blks (a b p : ℕ) (x0 : Vec Ideal S1024x384 .bf16) (x1 : Vec Ideal S1024x512 .bf16) (x2 : Vec Ideal S1024x64 .bf16)
    (x3 x4 : Vec Ideal S1024x64 .f32) : Prop where
  q : ∀ i, x0 i = ((qs I (1024 * a + i 0) (384 * p + i 1) : ℝ) : EReal)
  k : ∀ i, x1 i = kvn I (1024 * b + i 0) (512 * p + i 1)
  e : IsKpe I (1024 * b) x2
  co : IsC I (1024 * a) x3
  si : IsS I (1024 * a) x4

section
variable {I} {a b p : ℕ} {x0 : Vec Ideal S1024x384 .bf16} {x1 : Vec Ideal S1024x512 .bf16} {x2 : Vec Ideal S1024x64 .bf16}
    {x3 x4 : Vec Ideal S1024x64 .f32} (B : Blks I a b p x0 x1 x2 x3 x4) (hab : b ≤ a ∧ a ≤ 1)
include B

/-- The first head's queries. -/
theorem Blks.q0 (inb) : IsQ I (2 * p) (1024 * a) (View.ld (Val := Elt Ideal) x0 (Rect.unit (s := S1024x384) ![0, 0] ![1024, 192] inb)) := fun i => by
  pointwise
  rw [B.q]
  show ((qs I (1024 * a + (i 0 : ℕ)) (384 * p + (i 1 : ℕ)) : ℝ) : EReal) = _
  rw [show 384 * p + (i 1 : ℕ) = 192 * (2 * p) + (i 1 : ℕ) by omega]
/-- The second head's queries. -/
theorem Blks.q1 (inb) : IsQ I (2 * p + 1) (1024 * a) (View.ld (Val := Elt Ideal) x0 (Rect.unit (s := S1024x384) ![0, 192] ![1024, 192] inb)) := fun i => by
  pointwise
  rw [B.q]
  show ((qs I (1024 * a + (i 0 : ℕ)) (384 * p + (192 + (i 1 : ℕ))) : ℝ) : EReal) = _
  rw [show 384 * p + (192 + (i 1 : ℕ)) = 192 * (2 * p + 1) + (i 1 : ℕ) by omega]
/-- The first head's keys and values. -/
theorem Blks.k0 (inb) : IsKV I (2 * p) (1024 * b) (View.ld (Val := Elt Ideal) x1 (Rect.unit (s := S1024x512) ![0, 0] ![1024, 256] inb)) := fun i => by
  pointwise
  rw [B.k]
  show kvn I (1024 * b + (i 0 : ℕ)) (512 * p + (i 1 : ℕ)) = _
  rw [show 512 * p + (i 1 : ℕ) = 256 * (2 * p) + (i 1 : ℕ) by omega]
/-- The second head's keys and values. -/
theorem Blks.k1 (inb) : IsKV I (2 * p + 1) (1024 * b) (View.ld (Val := Elt Ideal) x1 (Rect.unit (s := S1024x512) ![0, 256] ![1024, 256] inb)) := fun i => by
  pointwise
  rw [B.k]
  show kvn I (1024 * b + (i 0 : ℕ)) (512 * p + (256 + (i 1 : ℕ))) = _
  rw [show 512 * p + (256 + (i 1 : ℕ)) = 256 * (2 * p + 1) + (i 1 : ℕ) by omega]

/-- The shared key's block after its cast. -/
theorem Blks.e' : IsKpe I (1024 * b) (k3_pay5 (F := Ideal) x2) := fun i => by
  unfold k3_pay5; pointwise; exact B.e i
/-- The cosines' block after its cast. -/
theorem Blks.c' : IsC I (1024 * a) (k3_pay3 (F := Ideal) x3) := fun i => by
  unfold k3_pay3; pointwise; exact B.co i
/-- The sines' block after its cast. -/
theorem Blks.s' : IsS I (1024 * a) (k3_pay4 (F := Ideal) x4) := fun i => by
  unfold k3_pay4; pointwise; exact B.si i

include hab

/-- The first head's weighted values. -/
theorem Blks.a0 (inb inb') (j : S1024x128.Idx) :
    k3_pay10 (F := Ideal) (BitVec.ofNat 32 a) (BitVec.ofNat 32 b) (k3_pay3 x3) (k3_pay4 x4) x2
      (View.ld (Val := Elt Ideal) x0 (Rect.unit (s := S1024x384) ![0, 0] ![1024, 192] inb))
      (View.ld (Val := Elt Ideal) x1 (Rect.unit (s := S1024x512) ![0, 0] ![1024, 256] inb')) j
      = numP I (2 * p) (1024 * a + j 0) b (j 1) :=
  pay_a I (2 * p) a b _ _ _ _ _ _ B.c' B.s' B.e' (mask_eq a b hab) (B.q0 inb) (B.k0 inb') j
/-- The first head's weights. -/
theorem Blks.l0 (inb inb') (j : S1024x1.Idx) :
    k3_pay9 (F := Ideal) (BitVec.ofNat 32 a) (BitVec.ofNat 32 b) (k3_pay3 x3) (k3_pay4 x4) x2
      (View.ld (Val := Elt Ideal) x0 (Rect.unit (s := S1024x384) ![0, 0] ![1024, 192] inb))
      (View.ld (Val := Elt Ideal) x1 (Rect.unit (s := S1024x512) ![0, 0] ![1024, 256] inb')) j
      = ((denP I (2 * p) (1024 * a + j 0) b : ℝ) : EReal) :=
  pay_l I (2 * p) a b _ _ _ _ _ _ B.c' B.s' B.e' (mask_eq a b hab) (B.q0 inb) (B.k0 inb') j
/-- The second head's weighted values. -/
theorem Blks.a1 (inb inb') (j : S1024x128.Idx) :
    k3_pay18 (F := Ideal) (k3_pay3 x3) (k3_pay4 x4) (k3_pay5 x2) (k3_pay6 (BitVec.ofNat 32 a) (BitVec.ofNat 32 b))
      (View.ld (Val := Elt Ideal) x0 (Rect.unit (s := S1024x384) ![0, 192] ![1024, 192] inb))
      (View.ld (Val := Elt Ideal) x1 (Rect.unit (s := S1024x512) ![0, 256] ![1024, 256] inb')) j
      = numP I (2 * p + 1) (1024 * a + j 0) b (j 1) :=
  pay_a I (2 * p + 1) a b _ _ _ _ _ _ B.c' B.s' B.e' (mask_eq a b hab) (B.q1 inb) (B.k1 inb') j
/-- The second head's weights. -/
theorem Blks.l1 (inb inb') (j : S1024x1.Idx) :
    k3_pay17 (F := Ideal) (k3_pay3 x3) (k3_pay4 x4) (k3_pay5 x2) (k3_pay6 (BitVec.ofNat 32 a) (BitVec.ofNat 32 b))
      (View.ld (Val := Elt Ideal) x0 (Rect.unit (s := S1024x384) ![0, 192] ![1024, 192] inb))
      (View.ld (Val := Elt Ideal) x1 (Rect.unit (s := S1024x512) ![0, 256] ![1024, 256] inb')) j
      = ((denP I (2 * p + 1) (1024 * a + j 0) b : ℝ) : EReal) :=
  pay_l I (2 * p + 1) a b _ _ _ _ _ _ B.c' B.s' B.e' (mask_eq a b hab) (B.q1 inb) (B.k1 inb') j

end

/-- The division by a real. -/
theorem pay_div (h t c : ℕ) (ht : t < 2048) (v : Vec Ideal S1024x128 .f32) (l : Vec Ideal S1024x1 .f32) (j : S1024x128.Idx)
    (hv : v j = num I h t (j 1)) (hl : l (ix2 (j 0) 0) = ((den I h t : ℝ) : EReal))
    (hc : c = 128 * h + j 1) :
    k3_pay1 (F := Ideal) v l j = att I t c := by
  have hj : (j 1 : ℕ) < 128 := (j 1).isLt
  unfold k3_pay1
  pointwise
  rw [hv, hl, Ideal.div_coe (den_pos I h ht).ne']
  unfold att
  rw [hc, show (128 * h + (j 1 : ℕ)) / 128 = h by omega, show (128 * h + (j 1 : ℕ)) % 128 = j 1 by omega]

/-! ## What is stored, and what is accumulated -/

section
variable (v17 v34 : BitVec 32) (v36 v38 : FVec Ideal S1024x64 .f32) (v39 : Vec Ideal S1024x64 .bf16) (v40 : FVec Ideal S1024x64 .bf16)
  (v46 : IVec S1024x1024 1) (v47 : Vec Ideal S1024x192 .bf16) (v67 : Vec Ideal S1024x256 .bf16)
/-- What is stored is what was computed: the cast to the same shape changes nothing. -/
theorem cast11 (j : S1024x128.Idx) : k3_pay11 (F := Ideal) v17 v34 v36 v38 v39 v47 v67 j = k3_pay10 (F := Ideal) v17 v34 v36 v38 v39 v47 v67 j := by
  unfold k3_pay11; pointwise
/-- What is stored is what was computed: the cast to the same shape changes nothing. -/
theorem cast12 (j : S1024x1.Idx) : k3_pay12 (F := Ideal) v17 v34 v36 v38 v39 v47 v67 j = k3_pay9 (F := Ideal) v17 v34 v36 v38 v39 v47 v67 j := by
  unfold k3_pay12; pointwise
/-- What is stored is what was computed: the cast to the same shape changes nothing. -/
theorem cast19 (j : S1024x128.Idx) : k3_pay19 (F := Ideal) v36 v38 v40 v46 v47 v67 j = k3_pay18 (F := Ideal) v36 v38 v40 v46 v47 v67 j := by
  unfold k3_pay19; pointwise
/-- What is stored is what was computed: the cast to the same shape changes nothing. -/
theorem cast20 (j : S1024x1.Idx) : k3_pay20 (F := Ideal) v36 v38 v40 v46 v47 v67 j = k3_pay17 (F := Ideal) v36 v38 v40 v46 v47 v67 j := by
  unfold k3_pay20; pointwise
/-- What is accumulated is the sum of what was held and what was computed. -/
theorem add13 (u w : FVec Ideal S1024x128 .f32) (j : S1024x128.Idx) : k3_pay13 (F := Ideal) u w j = w j + u j := by
  unfold k3_pay13; pointwise
/-- What is accumulated is the sum of what was held and what was computed. -/
theorem add14 (u w : FVec Ideal S1024x1 .f32) (j : S1024x1.Idx) : k3_pay14 (F := Ideal) u w j = w j + u j := by
  unfold k3_pay14; pointwise
/-- What is accumulated is the sum of what was held and what was computed. -/
theorem add21 (w : FVec Ideal S1024x128 .f32) (j : S1024x128.Idx) : k3_pay21 (F := Ideal) v36 v38 v40 v46 v47 v67 w j
    = w j + k3_pay18 (F := Ideal) v36 v38 v40 v46 v47 v67 j := by
  unfold k3_pay21; pointwise
/-- What is accumulated is the sum of what was held and what was computed. -/
theorem add22 (w : FVec Ideal S1024x1 .f32) (j : S1024x1.Idx) : k3_pay22 (F := Ideal) v36 v38 v40 v46 v47 v67 w j
    = w j + k3_pay17 (F := Ideal) v36 v38 v40 v46 v47 v67 j := by
  unfold k3_pay22; pointwise
end

/-- What the point before left, as the two heads load it. -/
theorem held_a0 (p T : ℕ) (X : Vec Ideal S1024x256 .f32) (hX : ∀ y, X y = numP I (2 * p + y 1 / 128) (T + y 0) 0 (y 1 % 128))
    (inb) (x : S1024x128.Idx) : View.ld (Val := Elt Ideal) X (Rect.unit (s := S1024x256) ![0, 0] ![1024, 128] inb) x
      = numP I (2 * p) (T + x 0) 0 (x 1) := by
  have hx : (x 1 : ℕ) < 128 := (x 1).isLt
  pointwise
  rw [hX]
  show numP I (2 * p + (x 1 : ℕ) / 128) (T + (x 0 : ℕ)) 0 ((x 1 : ℕ) % 128) = _
  rw [show (x 1 : ℕ) / 128 = 0 by omega, show (x 1 : ℕ) % 128 = x 1 by omega]; rfl
/-- The second head's weighted values. -/
theorem held_a1 (p T : ℕ) (X : Vec Ideal S1024x256 .f32) (hX : ∀ y, X y = numP I (2 * p + y 1 / 128) (T + y 0) 0 (y 1 % 128))
    (inb) (x : S1024x128.Idx) : View.ld (Val := Elt Ideal) X (Rect.unit (s := S1024x256) ![0, 128] ![1024, 128] inb) x
      = numP I (2 * p + 1) (T + x 0) 0 (x 1) := by
  have hx : (x 1 : ℕ) < 128 := (x 1).isLt
  pointwise
  rw [hX]
  show numP I (2 * p + (128 + (x 1 : ℕ)) / 128) (T + (x 0 : ℕ)) 0 ((128 + (x 1 : ℕ)) % 128) = _
  rw [show (128 + (x 1 : ℕ)) / 128 = 1 by omega, show (128 + (x 1 : ℕ)) % 128 = x 1 by omega]
/-- The first head's weights' sums. -/
theorem held_l0 (p T : ℕ) (X : Vec Ideal S1024x2 .f32) (hX : ∀ y, X y = ((denP I (2 * p + y 1) (T + y 0) 0 : ℝ) : EReal))
    (inb) (x : S1024x1.Idx) : View.ld (Val := Elt Ideal) X (Rect.unit (s := S1024x2) ![0, 0] ![1024, 1] inb) x
      = ((denP I (2 * p) (T + x 0) 0 : ℝ) : EReal) := by
  obtain ⟨r, d, rfl⟩ : ∃ (r : Fin 1024) (d : Fin 1), x = ix2 r d := ⟨x 0, x 1, eq_ix2 x⟩
  obtain rfl : d = 0 := Subsingleton.elim _ _
  pointwise
  rw [hX]; rfl
/-- The second head's weights' sums. -/
theorem held_l1 (p T : ℕ) (X : Vec Ideal S1024x2 .f32) (hX : ∀ y, X y = ((denP I (2 * p + y 1) (T + y 0) 0 : ℝ) : EReal))
    (inb) (x : S1024x1.Idx) : View.ld (Val := Elt Ideal) X (Rect.unit (s := S1024x2) ![0, 1] ![1024, 1] inb) x
      = ((denP I (2 * p + 1) (T + x 0) 0 : ℝ) : EReal) := by
  obtain ⟨r, d, rfl⟩ : ∃ (r : Fin 1024) (d : Fin 1), x = ix2 r d := ⟨x 0, x 1, eq_ix2 x⟩
  obtain rfl : d = 0 := Subsingleton.elim _ _
  pointwise
  rw [hX]; rfl

/-! ## The points -/

variable (V : (c : Dev nD) → (b : Ref sig .tc) → Buf (Elt Ideal) ((c : Thread nD τ).loc b)) (c : Dev nD)

/-- What the launch finds in its input arrays. -/
structure Arrs : Prop where
  q : ∀ i, V c (Pipeline.arrRef spec3 0) i = ((qs I (i 0) (i 1) : ℝ) : EReal)
  k : ∀ i, V c (Pipeline.arrRef spec3 1) i = kvn I (i 0) (i 1)
  e : ∀ i, V c (Pipeline.arrRef spec3 2) i = ((kpe I (i 0) (i 1) : ℝ) : EReal)
  co : ∀ i, V c (Pipeline.arrRef spec3 3) i = ((cs2 I (i 0) (i 1) : ℝ) : EReal)
  si : ∀ i, V c (Pipeline.arrRef spec3 4) i = ((sn2 I (i 0) (i 1) : ℝ) : EReal)

variable {I V c} (H : Arrs I V c)
include H

/-- A point's blocks. -/
theorem Arrs.blks (t : Fin cfg3.N) (a b : ℕ) (ha : (t.val % 3 + 1) / 2 = a) (hb : t.val % 3 / 2 = b) :
    Blks I a b (t.val / 3) (iblk3 V c 0 t) (iblk3 V c 1 t) (iblk3 V c 2 t) (iblk3 V c 3 t) (iblk3 V c 4 t) := by
  obtain ⟨e0, e1, e2, e3, e4, e5⟩ := idx3 t
  rw [ha] at e0 e3 e4
  rw [hb] at e1 e2
  constructor
  · intro i; refine (H.q _).trans ?_; blk_simp [e0]; simp only [Nat.mul_comm]
  · intro i; refine (H.k _).trans ?_; blk_simp [e1]; simp only [Nat.mul_comm]
  · intro i; refine (H.e _).trans ?_; blk_simp [e2]; simp only [Nat.mul_comm]
  · intro i; refine (H.co _).trans ?_; blk_simp [e3]; simp only [Nat.mul_comm]
  · intro i; refine (H.si _).trans ?_; blk_simp [e4]; simp only [Nat.mul_comm]

/-- A point of early queries: the attention of its rows. -/
theorem Arrs.pointA (t : Fin cfg3.N) (h : t.val % 3 = 0) (y : S1024x256.Idx) :
    (outsAt3 V c t.val t.isLt).1 y = att I (1024 * 0 + y 0) (256 * (t.val / 3) + y 1) := by
  have B := H.blks t 0 0 (by omega) (by omega)
  rw [outsAt3_A V c t (by omega) (by omega) (by omega) (by omega) (by omega)]
  dsimp only
  unfold out3_A_5
  frame_out
  simp only [← half_def, coord3, h, half_0, half_01]
  simp (disch := decide) only [↓ View.readCov_skip, ↓ View.readCov_cons_toLoadRect, ↓ View.readCov_fill]
  canon_tiles x hx
  · refine pay_div I (2 * (t.val / 3) + 1) _ _ (by omega) _ _ x ?_ ?_ (by omega)
    · rw [cast19]
      refine (B.a1 (by omega) _ _ x).trans ?_
      rw [num_first I _ _ (by omega), hx0]
    · rw [cast20]
      refine (B.l1 (by omega) _ _ _).trans ?_
      rw [den_first I _ (by omega), hx0]; rfl
  · refine pay_div I (2 * (t.val / 3)) _ _ (by omega) _ _ x ?_ ?_ (by omega)
    · rw [cast11]
      refine (B.a0 (by omega) _ _ x).trans ?_
      rw [num_first I _ _ (by omega), hx0]
    · rw [cast12]
      refine (B.l0 (by omega) _ _ _).trans ?_
      rw [den_first I _ (by omega), hx0]; rfl

/-- A point of late queries and early keys leaves the weighted values of the early keys. -/
theorem Arrs.pointB0 (t : Fin cfg3.N) (h : t.val % 3 = 1) (y : S1024x256.Idx) :
    (outsAt3 V c t.val t.isLt).2.1 y
      = numP I (2 * (t.val / 3) + y 1 / 128) (1024 * 1 + y 0) 0 (y 1 % 128) := by
  have B := H.blks t 1 0 (by omega) (by omega)
  rw [outsAt3_B V c t (by omega) (by omega) (by omega) (by omega) (by omega)]
  dsimp only
  unfold sout3_B_0
  frame_out
  simp only [← half_def, coord3, h, half_1, half_11]
  canon_tiles x hx
  · rw [cast19]
    refine (B.a1 (by omega) _ _ x).trans ?_
    rw [hx0, show (y 1 : ℕ) / 128 = 1 by omega, show (y 1 : ℕ) % 128 = x 1 by omega]
  · rw [cast11]
    refine (B.a0 (by omega) _ _ x).trans ?_
    rw [hx0, show (y 1 : ℕ) / 128 = 0 by omega, show (y 1 : ℕ) % 128 = x 1 by omega]; rfl

/-- It leaves their weights' sums too. -/
theorem Arrs.pointB1 (t : Fin cfg3.N) (h : t.val % 3 = 1) (y : S1024x2.Idx) :
    (outsAt3 V c t.val t.isLt).2.2 y = ((denP I (2 * (t.val / 3) + y 1) (1024 * 1 + y 0) 0 : ℝ) : EReal) := by
  have B := H.blks t 1 0 (by omega) (by omega)
  rw [outsAt3_B V c t (by omega) (by omega) (by omega) (by omega) (by omega)]
  dsimp only
  unfold sout3_B_1
  frame_out
  simp only [← half_def, coord3, h, half_1, half_11]
  canon_tiles x hx
  · rw [cast20]
    refine (B.l1 (by omega) _ _ _).trans ?_
    rw [hx0, show (y 1 : ℕ) = 1 by omega]
  · rw [cast12]
    refine (B.l0 (by omega) _ _ _).trans ?_
    rw [hx0, show (y 1 : ℕ) = 0 by omega]; rfl

/-- A point of late queries and late keys: the attention of its rows. -/
theorem Arrs.pointC (t : Fin cfg3.N) (h : t.val % 3 = 2) (y : S1024x256.Idx) :
    (outsAt3 V c t.val t.isLt).1 y = att I (1024 * 1 + y 0) (256 * (t.val / 3) + y 1) := by
  have B := H.blks t 1 1 (by omega) (by omega)
  have ht1 : t.val - 1 < cfg3.N := by have := t.isLt; omega
  have S0 := H.pointB0 ⟨t.val - 1, ht1⟩ (by show (t.val - 1) % 3 = 1; omega)
  have S1 := H.pointB1 ⟨t.val - 1, ht1⟩ (by show (t.val - 1) % 3 = 1; omega)
  simp only [show (t.val - 1) / 3 = t.val / 3 by omega] at S0 S1
  rw [outsAt3_C V c t (by omega) (by omega) (by omega) (by omega) (by omega)]
  dsimp only
  unfold out3_C_5
  frame_out
  simp only [read_unread_whole]
  simp only [← half_def, coord3, h, half_2, half_21]
  simp (disch := decide) only [↓ View.readCov_skip, ↓ View.readCov_cons_toLoadRect, ↓ View.readCov_fill]
  generalize (outsAt3 V c (t.val - 1) _) = O at S0 S1 ⊢
  canon_tiles x hx
  · refine pay_div I (2 * (t.val / 3) + 1) _ _ (by omega) _ _ x ?_ ?_ (by omega)
    · rw [add21, B.a1 (by omega), held_a1 I _ _ _ S0, num_both, hx0]
    · rw [add22]
      refine (congrArg₂ (· + ·) (held_l1 I _ _ _ S1 _ _) (B.l1 (by omega) _ _ _)).trans ?_
      rw [← EReal.coe_add, den_both, hx0]; rfl
  · refine pay_div I (2 * (t.val / 3)) _ _ (by omega) _ _ x ?_ ?_ (by omega)
    · rw [add13, B.a0 (by omega), held_a0 I _ _ _ S0, num_both, hx0]
    · rw [add14]
      refine (congrArg₂ (· + ·) (held_l0 I _ _ _ S1 _ _) (B.l0 (by omega) _ _ _)).trans ?_
      rw [← EReal.coe_add, den_both, hx0]; rfl

/-- The attention array that the launch leaves. -/
theorem Arrs.att (i : S2048x4096.Idx) : (dat3 V c).arrAt 5 cfg3.N i = att I (i 0) (i 1) := by
  refine (dat3 V c).arrAt_forall_of_covers 5 (fun i v => v = Val.att I (i 0) (i 1)) (by decide +kernel)
    (fun t hf y => ?_) i
  have hne : t.val % 3 ≠ 1 := (by decide +kernel : ∀ t : Fin cfg3.N, (cfg3.win 5).flush t = true → t.val % 3 ≠ 1) t hf
  obtain ⟨e0, e1, e2, e3, e4, e5⟩ := idx3 t
  blk_simp
  rw [after3_5]
  rcases (by omega : t.val % 3 = 0 ∨ t.val % 3 = 2) with h | h
  · refine (H.pointA t h y).trans ?_
    blk_simp [e5, h]; simp only [Nat.mul_comm]
  · refine (H.pointC t h y).trans ?_
    blk_simp [e5, h]; simp only [Nat.mul_comm]

end Cert.Val

end
-- ==== Proof.Val.Host.lean ====
/- What the kernel's regions find in their windows: the host's tables of cosines and sines, the reshaped weights, and each
   earlier region's result; and with it the array that the program returns. -/
module

public import proofs.«01_k».proof.Proof.Val.Stage
public import proofs.«01_k».proof.Proof.Val.Attn
public import proofs.«01_k».proof.Proof.Val.RefA
public import proofs.«01_k».proof.Proof.RunI.Main

@[expose] public section

set_option maxRecDepth 16384

noncomputable section

namespace Cert.Val

open Idealize.ShloMosaic Idealize.ShloMosaic.TcCoe Idealize.SL.Sem Cert.KernelIdeal Cert.KernelIdeal.Gen
open Idealize.ShloMosaic.Pipeline (Dat Cfg Window)

variable (m : (ℓ : Loc nD τ sig) → Buf (Elt Ideal) ℓ) (ρ : Dev nD → PrngReg)

/-! ## The host's lines before the first region -/

/-- The kernel's cosines are the reference's, each column twice. -/
theorem W1_cos (c : Dev nD) : W1 m ρ c (Proc.devRef .tc main_v20)
    = shapeCast S2048x64 (broadcastInDim S2048x32x2 ![0, 1] bcast_S2048x32_S2048x32x2_0_1
        (Cert.ReferenceIdeal.Read.val_main_v17 (F := Ideal) (m ((c : Thread nD τ).loc main_arg1)))) shapeCasts_S2048x32x2_S2048x64 := by
  unfold W1 hostOps0
  after_results_simp
  rfl

/-- A table with each column twice, the first time negated. -/
def pairTab (v : FVec Ideal S2048x32 .f32) : FVec Ideal S2048x64 .f32 :=
  shapeCast S2048x64 (concatenate S2048x32x2 2
    [⟨S2048x32x1, broadcastInDim S2048x32x1 ![0, 1] bcast_S2048x32_S2048x32x1_0_1 (Host.negf v)⟩,
     ⟨S2048x32x1, broadcastInDim S2048x32x1 ![0, 1] bcast_S2048x32_S2048x32x1_0_1 v⟩]
    concatenates_S2048x32x1_S2048x32x1_S2048x32x2_d2) shapeCasts_S2048x32x2_S2048x64

/-- The kernel's sines are the reference's, each column twice, the first time negated. -/
theorem W1_sin (c : Dev nD) : W1 m ρ c (Proc.devRef .tc main_v25)
    = pairTab (Cert.ReferenceIdeal.Read.val_main_v19 (F := Ideal) (m ((c : Thread nD τ).loc main_arg1))) := by
  unfold W1 hostOps0
  after_results_simp
  rfl

/-- The queries' norm weight as one row. -/
theorem W1_qw (c : Dev nD) : W1 m ρ c (Proc.devRef .tc main_v26)
    = shapeCast S1x1536 (m ((c : Thread nD τ).loc main_arg3)) shapeCasts_S1536_S1x1536 := by
  unfold W1 hostOps0
  after_results_simp
  rfl

/-- The keys' norm weight as one row. -/
theorem W1_kw (c : Dev nD) : W1 m ρ c (Proc.devRef .tc main_v27)
    = shapeCast S1x512 (m ((c : Thread nD τ).loc main_arg6)) shapeCasts_S512_S1x512 := by
  unfold W1 hostOps0
  after_results_simp
  rfl

/-- The output weight rounded for the last region, which over the reals changes nothing. -/
theorem W6_wo (c : Dev nD) : W6 m ρ c (Proc.devRef .tc main_v32) = m ((c : Thread nD τ).loc main_arg8) := by
  unfold W6 hostOps4
  after_results_simp
  exact W5_args m ρ c main_arg8 (by decide)

/-! ## The windows -/

variable {I : Inp} {m} {c : Dev nD}
  (H : Args I (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)))

include H

/-- The kernel's table of cosines. -/
theorem win_cos (i : S2048x64.Idx) : W1 m ρ c (Proc.devRef .tc main_v20) i = ((cs2 I (i 0) (i 1) : ℝ) : EReal) := by
  obtain ⟨t, d, rfl⟩ : ∃ (t : Fin 2048) (d : Fin 64), i = ix2 t d := ⟨i 0, i 1, eq_ix2 i⟩
  rw [W1_cos]
  simp only [pointwise]
  exact Cert.Val.ref_cos H (ix2 t ⟨d.val / 2, by omega⟩)

/-- The kernel's table of sines. -/
theorem win_sin (i : S2048x64.Idx) : W1 m ρ c (Proc.devRef .tc main_v25) i = ((sn2 I (i 0) (i 1) : ℝ) : EReal) := by
  obtain ⟨t, d, rfl⟩ : ∃ (t : Fin 2048) (d : Fin 64), i = ix2 t d := ⟨i 0, i 1, eq_ix2 i⟩
  rw [W1_sin]
  unfold pairTab
  simp only [pointwise]
  have e := Cert.Val.ref_sin H (ix2 t ⟨d.val / 2, by omega⟩)
  split
  · rename_i h
    refine (congrArg (fun y : EReal => -y) e).trans ?_
    rw [← EReal.coe_neg]
    refine congrArg Real.toEReal (Eq.symm ?_)
    show sn2 I t.val d.val = _
    unfold sn2; rw [if_pos (by omega)]; rfl
  · rename_i h
    refine Eq.trans e (congrArg Real.toEReal (Eq.symm ?_))
    show sn2 I t.val d.val = _
    unfold sn2; rw [if_neg (by omega)]; rfl

/-- The queries' norm weight. -/
theorem win_qw (i : S1x1536.Idx) : W1 m ρ c (Proc.devRef .tc main_v26) i = ((I.qw (i 1) : ℝ) : EReal) := by
  obtain ⟨t, d, rfl⟩ : ∃ (t : Fin 1) (d : Fin 1536), i = ix2 t d := ⟨i 0, i 1, eq_ix2 i⟩
  rw [W1_qw]
  simp only [pointwise]
  exact H.qw (ix1 d)

/-- The keys' norm weight. -/
theorem win_kw (i : S1x512.Idx) : W1 m ρ c (Proc.devRef .tc main_v27) i = ((I.kw (i 1) : ℝ) : EReal) := by
  obtain ⟨t, d, rfl⟩ : ∃ (t : Fin 1) (d : Fin 512), i = ix2 t d := ⟨i 0, i 1, eq_ix2 i⟩
  rw [W1_kw]
  simp only [pointwise]
  exact H.kw (ix1 d)

/-- The first region's first result: the scaled latent of the queries. -/
theorem val_ql (i : S2048x1536.Idx) : W2 m ρ c (Proc.devRef .tc main_v28_0) i = ((qls I (i 0) (i 1) : ℝ) : EReal) :=
  (congrFun (W2_arr m ρ c 7) i).trans (arr_ql I (V1 m ρ) c
    (fun i => (congrFun (W1_args m ρ c main_arg0 (by decide)) i).trans (H.x i))
    (fun i => (congrFun (W1_args m ρ c main_arg2 (by decide)) i).trans (H.wa i))
    (fun i => win_qw ρ H i) i)

/-- Its second: the latent of keys and values. -/
theorem val_kl (i : S2048x512.Idx) : W2 m ρ c (Proc.devRef .tc main_v28_1) i = ((kl I (i 0) (i 1) : ℝ) : EReal) :=
  (congrFun (W2_arr m ρ c 8) i).trans (arr_kl I (V1 m ρ) c
    (fun i => (congrFun (W1_args m ρ c main_arg0 (by decide)) i).trans (H.x i))
    (fun i => (congrFun (W1_args m ρ c main_arg5 (by decide)) i).trans (H.wkv i))
    (fun i => win_kw ρ H i) i)

/-- Its third: the rotated key. -/
theorem val_kpe (i : S2048x64.Idx) : W2 m ρ c (Proc.devRef .tc main_v28_2) i = ((kpe I (i 0) (i 1) : ℝ) : EReal) :=
  (congrFun (W2_arr m ρ c 9) i).trans (arr_kpe I (V1 m ρ) c
    (fun i => (congrFun (W1_args m ρ c main_arg0 (by decide)) i).trans (H.x i))
    (fun i => (congrFun (W1_args m ρ c main_arg5 (by decide)) i).trans (H.wkv i))
    (fun i => win_cos ρ H i) (fun i => win_sin ρ H i) i)

/-- The second region's result: the scaled queries. -/
theorem val_qs (i : S2048x6144.Idx) : W3 m ρ c (Proc.devRef .tc main_v29) i = ((qs I (i 0) (i 1) : ℝ) : EReal) :=
  (congrFun (W3_arr m ρ c 2) i).trans (arr_qs I (V2 m ρ) c (fun i => val_ql ρ H i)
    (fun i => (congrFun (W2_args m ρ c main_arg4 (by decide)) i).trans (H.wb i)) i)

/-- The third region's result: the keys and values. -/
theorem val_kvn (i : S2048x8192.Idx) : W4 m ρ c (Proc.devRef .tc main_v30) i = kvn I (i 0) (i 1) :=
  (congrFun (W4_arr m ρ c 2) i).trans (arr_kvn I (V3 m ρ) c
    (fun i => (congrFun (W3_of m ρ c main_v28_1 (by decide)) i).trans (val_kl ρ H i))
    (fun i => (congrFun (W3_args m ρ c main_arg7 (by decide)) i).trans (H.wkb i)) i)

/-- The attention region finds its five arrays. -/
theorem val_arrs : Arrs I (V4 m ρ) c where
  q i := (congrFun (W4_of m ρ c main_v29 (by decide)) i).trans (val_qs ρ H i)
  k i := val_kvn ρ H i
  e i := (congrFun ((W4_of m ρ c main_v28_2 (by decide)).trans (W3_of m ρ c main_v28_2 (by decide))) i).trans (val_kpe ρ H i)
  co i := (congrFun ((W4_of m ρ c main_v20 (by decide)).trans ((W3_of m ρ c main_v20 (by decide)).trans
    (W2_of m ρ c main_v20 (by decide)))) i).trans (win_cos ρ H i)
  si i := (congrFun ((W4_of m ρ c main_v25 (by decide)).trans ((W3_of m ρ c main_v25 (by decide)).trans
    (W2_of m ρ c main_v25 (by decide)))) i).trans (win_sin ρ H i)

/-- The fourth region's result: the attention's output. -/
theorem val_att (i : S2048x4096.Idx) : W5 m ρ c (Proc.devRef .tc main_v31) i = att I (i 0) (i 1) :=
  (congrFun (W5_arr m ρ c 5) i).trans ((val_arrs ρ H).att i)

/-- The program's result. -/
theorem kernel_out (i : S2048x4096.Idx) : (dat4 (V6 m ρ) c).arrAt 2 cfg4.N i
    = ∑ k : Fin 4096, att I (i 0) k * (m ((c : Thread nD τ).loc main_arg8) : S4096x4096.Idx → EReal) (ix2 k (i 1)) :=
  arr_o I (V6 m ρ) c _ (fun i => (congrFun (W6_of m ρ c main_v31 (by decide)) i).trans (val_att ρ H i))
    (fun i => congrFun (W6_wo m ρ c) i) i

end Cert.Val

end
-- ==== Proof.Val.Pre.lean ====
/- What the precondition says: the arrays it names hold reals where it names them, and the positions increase from each token to the next, so
   that their order is the tokens' order. -/
module

public import proofs.«01_k».proof.Proof.Val.RefA
public import proofs.«01_k».proof.Pre_finite_ordered

@[expose] public section

set_option maxRecDepth 16384

noncomputable section

namespace Cert.Val

open Idealize.ShloMosaic
open Cert.Pre_finite_ordered (S2048x4096 S2048 S4096x1536 S1536 S1536x6144 S4096x576 S512 S512x8192 S4096x4096 S_ S2047 S4096x64 S512x32x256 S512x32x128)

/-- An extended real whose magnitude compares below +∞ is real. -/
theorem real_of_cmp (x : EReal) (h : Ideal.cmp .olt (max x (-x)) (Ideal.ofBits .f32 0x7F800000#32) = 1#1) :
    x = ((x.toReal : ℝ) : EReal) := by
  rw [ofBits_top] at h
  have h' : max x (-x) < ⊤ := by
    by_contra hn
    rw [Ideal.cmp_olt, decide_eq_false hn] at h
    exact absurd h (by decide)
  refine (EReal.coe_toReal (fun e => ?_) (fun e => ?_)).symm
  · rw [e] at h'; simp at h'
  · rw [e] at h'; simp at h'

/-- The same of a whole array. -/
theorem real_of_olt {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) (i : s.Idx) :
    (x i : EReal) = (((x i : EReal).toReal : ℝ) : EReal) :=
  real_of_cmp (x i) (congrFun h i)

/-- The real array of natural indices in an array of extended reals of rank one. -/
def fn1 {n : ℕ} (x : (⟨1, ![n]⟩ : Shape).Idx → EReal) (a : ℕ) : ℝ := if h : a < n then (x (ix1 ⟨a, h⟩)).toReal else 0
/-- The same of rank two. -/
def fn2 {n k : ℕ} (x : (⟨2, ![n, k]⟩ : Shape).Idx → EReal) (a b : ℕ) : ℝ :=
  if h : a < n ∧ b < k then (x (ix2 ⟨a, h.1⟩ ⟨b, h.2⟩)).toReal else 0

/-- The array of natural indices in an array of extended reals of rank two, where the columns `P` are taken as reals. -/
def fnE {n k : ℕ} (x : (⟨2, ![n, k]⟩ : Shape).Idx → EReal) (P : ℕ → Prop) [DecidablePred P] (a b : ℕ) : EReal :=
  if P b then (fn2 x a b : EReal) else if h : a < n ∧ b < k then x (ix2 ⟨a, h.1⟩ ⟨b, h.2⟩) else 0

/-- It is what the array holds, when those columns are real. -/
theorem fnE_eq {n k : ℕ} (x : (⟨2, ![n, k]⟩ : Shape).Idx → EReal) (P : ℕ → Prop) [DecidablePred P]
    (h : ∀ (a : Fin n) (b : Fin k), P b → x (ix2 a b) = (((x (ix2 a b)).toReal : ℝ) : EReal))
    (i : (⟨2, ![n, k]⟩ : Shape).Idx) : x i = fnE x P (i 0) (i 1) := by
  obtain ⟨a, b, rfl⟩ : ∃ (a : Fin n) (b : Fin k), i = ix2 a b := ⟨i 0, i 1, eq_ix2 i⟩
  show x (ix2 a b) = fnE x P a b
  have hab : a.val < n ∧ b.val < k := ⟨a.isLt, b.isLt⟩
  unfold fnE fn2
  split
  · rename_i hb
    simpa only [dif_pos hab] using h a b hb
  · simp only [dif_pos hab]

/-- It is what the array holds, when that is real. -/
theorem fn1_eq {n : ℕ} (x : (⟨1, ![n]⟩ : Shape).Idx → EReal) (h : ∀ i, x i = (((x i).toReal : ℝ) : EReal))
    (i : (⟨1, ![n]⟩ : Shape).Idx) : x i = ((fn1 x (i 0) : ℝ) : EReal) := by
  obtain ⟨a, rfl⟩ : ∃ a : Fin n, i = ix1 a := ⟨i 0, eq_ix1 i⟩
  refine (h _).trans (congrArg Real.toEReal (Eq.symm ?_))
  exact dif_pos a.isLt

/-- It is what the array holds, when that is real. -/
theorem fn2_eq {n k : ℕ} (x : (⟨2, ![n, k]⟩ : Shape).Idx → EReal) (h : ∀ i, x i = (((x i).toReal : ℝ) : EReal))
    (i : (⟨2, ![n, k]⟩ : Shape).Idx) : x i = ((fn2 x (i 0) (i 1) : ℝ) : EReal) := by
  obtain ⟨a, b, rfl⟩ : ∃ (a : Fin n) (b : Fin k), i = ix2 a b := ⟨i 0, i 1, eq_ix2 i⟩
  refine (h _).trans (congrArg Real.toEReal (Eq.symm ?_))
  exact dif_pos (⟨a.isLt, b.isLt⟩ : a.val < n ∧ b.val < k)

/-- Positions that increase from each token to the next are in the tokens' order. -/
theorem pos_order (p : S2048.Idx → BitVec 32)
    (h : ∀ (k : ℕ) (hk : k + 1 < 2048), (p (ix1 ⟨k, by omega⟩)).toInt < (p (ix1 ⟨k + 1, hk⟩)).toInt) (i j : S2048.Idx) :
    (p j).toInt ≤ (p i).toInt ↔ (j 0).val ≤ (i 0).val := by
  have lt : ∀ (b : ℕ) (hb : b < 2048) (a : ℕ) (hab : a < b), (p (ix1 ⟨a, by omega⟩)).toInt < (p (ix1 ⟨b, hb⟩)).toInt := by
    intro b
    induction b with
    | zero => intro _ a hab; exact absurd hab (Nat.not_lt_zero a)
    | succ b ih =>
      intro hb a hab
      rcases Nat.lt_succ_iff_lt_or_eq.mp hab with hlt | rfl
      · exact (ih (by omega) a hlt).trans (h b hb)
      · exact h a hb
  obtain ⟨a, rfl⟩ : ∃ a : Fin 2048, i = ix1 a := ⟨i 0, eq_ix1 i⟩
  obtain ⟨b, rfl⟩ : ∃ b : Fin 2048, j = ix1 b := ⟨j 0, eq_ix1 j⟩
  show _ ↔ b.val ≤ a.val
  constructor
  · intro hle
    by_contra hn
    exact absurd (lt b.val b.isLt a.val (by omega)) (not_lt.mpr hle)
  · intro hle
    rcases Nat.lt_or_eq_of_le hle with hlt | he
    · exact (lt a.val a.isLt b.val hlt).le
    · rw [Fin.ext he]

/-- The token whose position a program is given, as a bit vector. -/
def posAt (p : S2048.Idx → BitVec 32) (t : ℕ) : BitVec 32 := if h : t < 2048 then p (ix1 ⟨t, h⟩) else 0

/-- The arrays in a program's arguments, with the tables of cosines and sines of its positions. -/
def inp (x0 : S2048x4096.Idx → EReal) (x1 : S2048.Idx → BitVec 32) (x2 : S4096x1536.Idx → EReal)
    (x3 : S1536.Idx → EReal) (x4 : S1536x6144.Idx → EReal) (x5 : S4096x576.Idx → EReal) (x6 : S512.Idx → EReal)
    (x7 : S512x8192.Idx → EReal) : Inp where
  x := fn2 x0
  wa := fnE x2 fun _ => False
  qw := fn1 x3
  wb := fn2 x4
  wkv := fnE x5 fun c => 512 ≤ c
  wp := fn2 x5
  wkv_eq _ _ hc := if_pos hc
  kw := fn1 x6
  wkb := fnE x7 fun c => c % 256 < 128
  wk := fn2 x7
  wkb_eq _ _ hc := if_pos hc
  cs t k := Real.cos (ang (posAt x1 t) k)
  sn t k := Real.sin (ang (posAt x1 t) k)

/-- The shared key's columns of the keys' first weights are real. -/
theorem real_wp (x5 : S4096x576.Idx → EReal) {hs hb}
    (h : cmpf .olt (Host.absf (extractStridedSlice S4096x64 ![0, 512] (x5 : FVec Ideal S4096x576 .f32) hs))
      (broadcastInDim S4096x64 ![] hb (constant (F := Ideal) S_ .f32 0x7F800000#32)) = fun _ => 1#1)
    (a : Fin 4096) (b : Fin 576) (hc : 512 ≤ b.val) : x5 (ix2 a b) = (((x5 (ix2 a b)).toReal : ℝ) : EReal) := by
  have e := real_of_olt _ hb h (ix2 a ⟨b.val - 512, by omega⟩)
  simp only [pointwise] at e
  refine Eq.subst (motive := fun j => x5 j = (((x5 j).toReal : ℝ) : EReal)) (congrArg₂ ix2 (Fin.ext ?_) (Fin.ext ?_)) e
  · exact Nat.zero_add _
  · show 512 + (b.val - 512) = b.val; omega

/-- The heads' keys' columns of the keys' and values' weights are real. -/
theorem real_wk (x7 : S512x8192.Idx → EReal) {hs hc hb}
    (h : cmpf .olt (Host.absf (extractStridedSlice S512x32x128 ![0, 0, 0] (shapeCast S512x32x256 (x7 : FVec Ideal S512x8192 .f32) hc) hs))
      (broadcastInDim S512x32x128 ![] hb (constant (F := Ideal) S_ .f32 0x7F800000#32)) = fun _ => 1#1)
    (a : Fin 512) (b : Fin 8192) (hc : b.val % 256 < 128) : x7 (ix2 a b) = (((x7 (ix2 a b)).toReal : ℝ) : EReal) := by
  have e := real_of_olt _ hb h (ix3 a ⟨b.val / 256, by omega⟩ ⟨b.val % 256, hc⟩)
  simp only [pointwise] at e
  refine Eq.subst (motive := fun j => x7 j = (((x7 j).toReal : ℝ) : EReal)) (congrArg₂ ix2 (Fin.ext ?_) (Fin.ext ?_)) e
  · exact Nat.zero_add _
  · show (0 + b.val / 256) * 256 + (0 + b.val % 256) = b.val; omega

/-- Under the precondition the arguments hold those arrays, and their positions are in the tokens' order. -/
theorem args_of_pre [Cert.Pre_finite_ordered.Facts] (x0 : S2048x4096.Idx → EReal) (x1 : S2048.Idx → BitVec 32) (x2 : S4096x1536.Idx → EReal)
    (x3 : S1536.Idx → EReal) (x4 : S1536x6144.Idx → EReal) (x5 : S4096x576.Idx → EReal) (x6 : S512.Idx → EReal)
    (x7 : S512x8192.Idx → EReal) (x8 : S4096x4096.Idx → EReal)
    (h0 : (Cert.Pre_finite_ordered.fn (F := Ideal) x0 x1 x2 x3 x4 x5 x6 x7 x8).1 = fun _ => 1#1)
    (h1 : (Cert.Pre_finite_ordered.fn (F := Ideal) x0 x1 x2 x3 x4 x5 x6 x7 x8).2.1 = fun _ => 1#1)
    (h2 : (Cert.Pre_finite_ordered.fn (F := Ideal) x0 x1 x2 x3 x4 x5 x6 x7 x8).2.2.1 = fun _ => 1#1)
    (h3 : (Cert.Pre_finite_ordered.fn (F := Ideal) x0 x1 x2 x3 x4 x5 x6 x7 x8).2.2.2.1 = fun _ => 1#1)
    (h4 : (Cert.Pre_finite_ordered.fn (F := Ideal) x0 x1 x2 x3 x4 x5 x6 x7 x8).2.2.2.2.1 = fun _ => 1#1)
    (h5 : (Cert.Pre_finite_ordered.fn (F := Ideal) x0 x1 x2 x3 x4 x5 x6 x7 x8).2.2.2.2.2.1 = fun _ => 1#1)
    (h6 : (Cert.Pre_finite_ordered.fn (F := Ideal) x0 x1 x2 x3 x4 x5 x6 x7 x8).2.2.2.2.2.2 = fun _ => 1#1) :
    Args (inp x0 x1 x2 x3 x4 x5 x6 x7) x0 x1 x2 x3 x4 x5 x6 x7 where
  x := fn2_eq x0 (real_of_olt x0 _ h0)
  wa := fnE_eq x2 (fun _ => False) fun _ _ h => h.elim
  qw := fn1_eq x3 (real_of_olt x3 _ h2)
  wb := fn2_eq x4 (real_of_olt x4 _ h3)
  wkv := fnE_eq x5 (fun c => 512 ≤ c) (real_wp x5 h4)
  kw := fn1_eq x6 (real_of_olt x6 _ h5)
  wkb := fnE_eq x7 (fun c => c % 256 < 128) (real_wk x7 h6)
  cs i k := by
    obtain ⟨a, rfl⟩ : ∃ a : Fin 2048, i = ix1 a := ⟨i 0, eq_ix1 i⟩
    exact congrArg (fun b => Real.cos (ang b k)) (dif_pos a.isLt)
  sn i k := by
    obtain ⟨a, rfl⟩ : ∃ a : Fin 2048, i = ix1 a := ⟨i 0, eq_ix1 i⟩
    exact congrArg (fun b => Real.sin (ang b k)) (dif_pos a.isLt)
  inc := pos_order x1 fun k hk => by
    have h := congrFun h1 (ix1 ⟨k, by omega⟩)
    change cmpi .slt (extractStridedSlice S2047 ![0] x1 _) (extractStridedSlice S2047 ![1] x1 _) (ix1 (n0 := 2047) ⟨k, by omega⟩) = 1#1 at h
    simp only [pointwise] at h
    have h' := IntOp.cmpi_slt.mp h
    have e0 : (⟨0 + k, by omega⟩ : Fin 2048) = ⟨k, by omega⟩ := Fin.ext (Nat.zero_add k)
    have e1 : (⟨1 + k, by omega⟩ : Fin 2048) = ⟨k + 1, hk⟩ := Fin.ext (Nat.add_comm 1 k)
    rw [← e0, ← e1]
    exact h'

end Cert.Val

end
-- ==== Proof.lean ====
/- The certificate's claims, each from its own module: the frames of the two kernel programs (`RunK/`, `RunI/`), the
   frame of the reference (its generated run), the named constant's side condition, and the value claim (`Val/`). -/
module

public import proofs.«01_k».proof.Defs
public import proofs.«01_k».proof.Proof.Gen.Pre_finite_ordered
public import proofs.«01_k».proof.Proof.RunK.Main
public import proofs.«01_k».proof.Proof.RunI.Main
public import proofs.«01_k».proof.Proof.Gen.ReferenceIdeal.Run
public import proofs.«01_k».proof.Proof.Gen.ReferenceIdeal.Read
public import proofs.«01_k».proof.Proof.Val.RefC
public import proofs.«01_k».proof.Proof.Val.Host
public import proofs.«01_k».proof.Proof.Val.Pre

@[expose] public section

noncomputable section

namespace Cert.Proof

open Idealize.ShloMosaic Idealize.SL.Sem

/-- The reference's frame: its generated run, and it declares no semaphore. -/
theorem frame_ref (m : (ℓ : Loc Cert.ReferenceIdeal.nD Cert.ReferenceIdeal.τ Cert.ReferenceIdeal.sig) → Buf (Elt Ideal) ℓ)
    (ρ : Dev Cert.ReferenceIdeal.nD → PrngReg) : Cert.Pre_ReferenceIdeal m →
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) := fun _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- What the reference returns is what the kernel's last region writes: both are the rows of attention against
    the columns of the output weights. -/
theorem result_eq [Cert.Pre_finite_ordered.Facts]
    (m : (ℓ : Loc Cert.KernelIdeal.nD Cert.KernelIdeal.τ Cert.KernelIdeal.sig) → Buf (Elt Ideal) ℓ) (g : Dev Cert.KernelIdeal.nD → PrngReg)
    (hpre : Cert.Pre_KernelIdeal_finite_ordered m) (c : Dev Cert.KernelIdeal.nD) :
    Cert.ReferenceIdeal.Read.val_main_v115 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
    = (Cert.KernelIdeal.Gen.dat4 (Cert.KernelIdeal.Gen.V6 m g) c).arrAt 2 Cert.KernelIdeal.cfg4.N := by
  obtain ⟨h0, h1, h2, h3, h4, h5, h6⟩ := hpre c
  have H := Cert.Val.args_of_pre _ _ _ _ _ _ _ _ _ h0 h1 h2 h3 h4 h5 h6
  exact funext fun i => (Cert.Val.ref_out H _ i).trans (Cert.Val.kernel_out g H i).symm

/-- THE VALUE CLAIM: from arguments that agree and satisfy the precondition, the kernel and the reference both end with the one
    result, and with their arguments as launched. -/
theorem value [Cert.Pre_finite_ordered.Facts] :
    Cert.algebraic_KernelIdeal_ReferenceIdeal_pre_finite_ordered := fun m g m' g' hpre hag =>
  ⟨fun c => (Cert.KernelIdeal.Gen.dat4 (Cert.KernelIdeal.Gen.V6 m g) c).arrAt 2 Cert.KernelIdeal.cfg4.N,
    (θ_run (Cert.KernelIdeal.defs (F := Ideal)) _ _).mono (fun r hr c =>
      have h := hr.1
      ⟨(h c _ (Cert.KernelIdeal.Gen.mem_uc Cert.KernelIdeal.main_v33 (by decide))).trans (Cert.KernelIdeal.Gen.W7_arr m g c 2),
       (h c _ (Cert.KernelIdeal.Gen.mem_uc Cert.KernelIdeal.main_arg0 (by decide))).trans (Cert.KernelIdeal.Gen.W7_main_arg0 m g c),
       (h c _ (Cert.KernelIdeal.Gen.mem_uc Cert.KernelIdeal.main_arg1 (by decide))).trans (Cert.KernelIdeal.Gen.W7_main_arg1 m g c),
       (h c _ (Cert.KernelIdeal.Gen.mem_uc Cert.KernelIdeal.main_arg2 (by decide))).trans (Cert.KernelIdeal.Gen.W7_main_arg2 m g c),
       (h c _ (Cert.KernelIdeal.Gen.mem_uc Cert.KernelIdeal.main_arg3 (by decide))).trans (Cert.KernelIdeal.Gen.W7_main_arg3 m g c),
       (h c _ (Cert.KernelIdeal.Gen.mem_uc Cert.KernelIdeal.main_arg4 (by decide))).trans (Cert.KernelIdeal.Gen.W7_main_arg4 m g c),
       (h c _ (Cert.KernelIdeal.Gen.mem_uc Cert.KernelIdeal.main_arg5 (by decide))).trans (Cert.KernelIdeal.Gen.W7_main_arg5 m g c),
       (h c _ (Cert.KernelIdeal.Gen.mem_uc Cert.KernelIdeal.main_arg6 (by decide))).trans (Cert.KernelIdeal.Gen.W7_main_arg6 m g c),
       (h c _ (Cert.KernelIdeal.Gen.mem_uc Cert.KernelIdeal.main_arg7 (by decide))).trans (Cert.KernelIdeal.Gen.W7_main_arg7 m g c),
       (h c _ (Cert.KernelIdeal.Gen.mem_uc Cert.KernelIdeal.main_arg8 (by decide))).trans (Cert.KernelIdeal.Gen.W7_main_arg8 m g c)⟩)
      (Cert.KernelIdeal.Gen.run_all m g),
    (θ_run (Cert.ReferenceIdeal.defs (F := Ideal)) _ _).mono (fun r h c =>
      ⟨(h c).1.trans ((Cert.ReferenceIdeal.Read.val_main_v115_eq m' c).trans (by
        obtain ⟨e0, e1, e2, e3, e4, e5, e6, e7, e8⟩ := hag c
        rw [e0, e1, e2, e3, e4, e5, e6, e7, e8]
        exact result_eq m g hpre c)), (h c).2⟩)
      (Cert.ReferenceIdeal.Value.run (F := Ideal) m' g')⟩

/-- The certificate: every claim of `Cert.Claim`. -/
theorem claim : Cert.Claim :=
  ⟨Cert.Kernel.Gen.facts, Cert.KernelIdeal.Gen.facts, Cert.ReferenceIdeal.Gen.facts, Cert.Pre_finite_ordered.Gen.facts,
    fun m ρ _ => Cert.Kernel.Gen.frame m ρ,
    fun m ρ _ => Cert.KernelIdeal.Gen.frame m ρ,
    fun m ρ _ => Cert.KernelIdeal.Gen.frame m ρ,
    fun m ρ _ => frame_ref m ρ trivial,
    fun m ρ _ => frame_ref m ρ trivial,
    IdealRules.named_const.statement Cert.KernelIdeal.κ "mask" .f32 0xF149F2CA#32 ⊥ rfl,
    value⟩

end Cert.Proof

end
